-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![4096, 2048]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x2048 : Shape := ⟨2, ![512, 2048]⟩
abbrev S1 : Shape := ⟨1, ![1]⟩
abbrev S4096x2048 : Shape := ⟨2, ![4096, 2048]⟩
abbrev S4096x4096 : Shape := ⟨2, ![4096, 4096]⟩
abbrev S2x1024x2048 : Shape := ⟨3, ![2, 1024, 2048]⟩
abbrev S8 : Shape := ⟨1, ![8]⟩
abbrev S2 : Shape := ⟨1, ![2]⟩
abbrev S_ : Shape := ⟨0, ![]⟩
abbrev S1024x4096 : Shape := ⟨2, ![1024, 4096]⟩
abbrev S1024x2048 : Shape := ⟨2, ![1024, 2048]⟩
abbrev S1x1024x2048 : Shape := ⟨3, ![1, 1024, 2048]⟩

abbrev nBuf : Space → Nat
  | .hbm => 5
  | .vmem => 5
  | .smem => 2
  | _ => 0

abbrev bufTy : (tb : Table) → Fin (tcTables nBuf tb) → BufTy
  | .hbm, ⟨0, _⟩ => ⟨S4096x512, .fp8e4m3⟩
  | .hbm, ⟨1, _⟩ => ⟨S512x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x512, .fp8e4m3⟩
  | .local _ .vmem, ⟨1, _⟩ => ⟨S512x2048, .fp8e5m2⟩
  | .local _ .vmem, ⟨2, _⟩ => ⟨S4096x4096, .fp8e4m3⟩
  | .local _ .vmem, ⟨3, _⟩ => ⟨S4096x2048, .fp8e5m2⟩
  | .local _ .vmem, ⟨4, _⟩ => ⟨S2x1024x2048, .f32⟩
  | .local _ .smem, ⟨0, _⟩ => ⟨S1, .f32⟩
  | .local _ .smem, ⟨1, _⟩ => ⟨S1, .f32⟩
  | _, _ => ⟨S4096x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_64 : BitVec 32 := 0#32
  let v95 : BitVec 1 := Scalar.cmpi .eq v2 c0_i32_64
  let v96 : BitVec 32 := Scalar.extui v95
  let c0_i32_65 : BitVec 32 := 0#32
  let v97 : BitVec 1 := Scalar.cmpi .ne v96 c0_i32_65
  v97

def k0_dev8 : Nat :=
  let c0_i32_189 : BitVec 32 := 0#32
  let c1_i32_187 : BitVec 32 := 1#32
  let c1_i32_188 : BitVec 32 := 1#32
  let v242 : BitVec 32 := Scalar.muli c1_i32_187 c1_i32_188
  let v243 : BitVec 32 := Scalar.addi c0_i32_189 v242
  v243.toNat
def k0_dev9 : Nat :=
  let c0_i32_196 : BitVec 32 := 0#32
  let c1_i32_194 : BitVec 32 := 1#32
  let c1_i32_195 : BitVec 32 := 1#32
  let v249 : BitVec 32 := Scalar.muli c1_i32_194 c1_i32_195
  let v250 : BitVec 32 := Scalar.addi c0_i32_196 v249
  v250.toNat
def k0_dev10 : Nat :=
  let c0_i32_203 : BitVec 32 := 0#32
  let c2_i32_201 : BitVec 32 := 2#32
  let c1_i32_202 : BitVec 32 := 1#32
  let v256 : BitVec 32 := Scalar.muli c2_i32_201 c1_i32_202
  let v257 : BitVec 32 := Scalar.addi c0_i32_203 v256
  v257.toNat
def k0_dev11 : Nat :=
  let c0_i32_210 : BitVec 32 := 0#32
  let c2_i32_208 : BitVec 32 := 2#32
  let c1_i32_209 : BitVec 32 := 1#32
  let v263 : BitVec 32 := Scalar.muli c2_i32_208 c1_i32_209
  let v264 : BitVec 32 := Scalar.addi c0_i32_210 v263
  v264.toNat
def k0_dev12 : Nat :=
  let c0_i32_217 : BitVec 32 := 0#32
  let c3_i32_215 : BitVec 32 := 3#32
  let c1_i32_216 : BitVec 32 := 1#32
  let v270 : BitVec 32 := Scalar.muli c3_i32_215 c1_i32_216
  let v271 : BitVec 32 := Scalar.addi c0_i32_217 v270
  v271.toNat
def k0_dev13 : Nat :=
  let c0_i32_224 : BitVec 32 := 0#32
  let c3_i32_222 : BitVec 32 := 3#32
  let c1_i32_223 : BitVec 32 := 1#32
  let v277 : BitVec 32 := Scalar.muli c3_i32_222 c1_i32_223
  let v278 : BitVec 32 := Scalar.addi c0_i32_224 v277
  v278.toNat
def k0_dev14 : Nat :=
  let c0_i32_231 : BitVec 32 := 0#32
  let c4_i32_229 : BitVec 32 := 4#32
  let c1_i32_230 : BitVec 32 := 1#32
  let v284 : BitVec 32 := Scalar.muli c4_i32_229 c1_i32_230
  let v285 : BitVec 32 := Scalar.addi c0_i32_231 v284
  v285.toNat
def k0_dev15 : Nat :=
  let c0_i32_238 : BitVec 32 := 0#32
  let c4_i32_236 : BitVec 32 := 4#32
  let c1_i32_237 : BitVec 32 := 1#32
  let v291 : BitVec 32 := Scalar.muli c4_i32_236 c1_i32_237
  let v292 : BitVec 32 := Scalar.addi c0_i32_238 v291
  v292.toNat
def k0_dev16 : Nat :=
  let c0_i32_245 : BitVec 32 := 0#32
  let c5_i32_243 : BitVec 32 := 5#32
  let c1_i32_244 : BitVec 32 := 1#32
  let v298 : BitVec 32 := Scalar.muli c5_i32_243 c1_i32_244
  let v299 : BitVec 32 := Scalar.addi c0_i32_245 v298
  v299.toNat
def k0_dev17 : Nat :=
  let c0_i32_252 : BitVec 32 := 0#32
  let c5_i32_250 : BitVec 32 := 5#32
  let c1_i32_251 : BitVec 32 := 1#32
  let v305 : BitVec 32 := Scalar.muli c5_i32_250 c1_i32_251
  let v306 : BitVec 32 := Scalar.addi c0_i32_252 v305
  v306.toNat
def k0_dev18 : Nat :=
  let c0_i32_259 : BitVec 32 := 0#32
  let c6_i32_257 : BitVec 32 := 6#32
  let c1_i32_258 : BitVec 32 := 1#32
  let v312 : BitVec 32 := Scalar.muli c6_i32_257 c1_i32_258
  let v313 : BitVec 32 := Scalar.addi c0_i32_259 v312
  v313.toNat
def k0_dev19 : Nat :=
  let c0_i32_266 : BitVec 32 := 0#32
  let c6_i32_264 : BitVec 32 := 6#32
  let c1_i32_265 : BitVec 32 := 1#32
  let v319 : BitVec 32 := Scalar.muli c6_i32_264 c1_i32_265
  let v320 : BitVec 32 := Scalar.addi c0_i32_266 v319
  v320.toNat
def k0_dev20 : Nat :=
  let c0_i32_273 : BitVec 32 := 0#32
  let c7_i32_271 : BitVec 32 := 7#32
  let c1_i32_272 : BitVec 32 := 1#32
  let v326 : BitVec 32 := Scalar.muli c7_i32_271 c1_i32_272
  let v327 : BitVec 32 := Scalar.addi c0_i32_273 v326
  v327.toNat
def k0_dev21 : Nat :=
  let c0_i32_280 : BitVec 32 := 0#32
  let c7_i32_278 : BitVec 32 := 7#32
  let c1_i32_279 : BitVec 32 := 1#32
  let v333 : BitVec 32 := Scalar.muli c7_i32_278 c1_i32_279
  let v334 : BitVec 32 := Scalar.addi c0_i32_280 v333
  v334.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_66 : BitVec 32 := 1#32
  let v98 : BitVec 1 := Scalar.cmpi .eq v2 c1_i32_66
  let v99 : BitVec 32 := Scalar.extui v98
  let c0_i32_67 : BitVec 32 := 0#32
  let v100 : BitVec 1 := Scalar.cmpi .ne v99 c0_i32_67
  v100

def k0_dev22 : Nat :=
  let c0_i32_189 : BitVec 32 := 0#32
  let c0_i32_187 : BitVec 32 := 0#32
  let c1_i32_188 : BitVec 32 := 1#32
  let v242 : BitVec 32 := Scalar.muli c0_i32_187 c1_i32_188
  let v243 : BitVec 32 := Scalar.addi c0_i32_189 v242
  v243.toNat
def k0_dev23 : Nat :=
  let c0_i32_195 : BitVec 32 := 0#32
  let c0_i32_193 : BitVec 32 := 0#32
  let c1_i32_194 : BitVec 32 := 1#32
  let v249 : BitVec 32 := Scalar.muli c0_i32_193 c1_i32_194
  let v250 : BitVec 32 := Scalar.addi c0_i32_195 v249
  v250.toNat
def k0_dev24 : Nat :=
  let c0_i32_202 : BitVec 32 := 0#32
  let c2_i32_200 : BitVec 32 := 2#32
  let c1_i32_201 : BitVec 32 := 1#32
  let v256 : BitVec 32 := Scalar.muli c2_i32_200 c1_i32_201
  let v257 : BitVec 32 := Scalar.addi c0_i32_202 v256
  v257.toNat
def k0_dev25 : Nat :=
  let c0_i32_209 : BitVec 32 := 0#32
  let c2_i32_207 : BitVec 32 := 2#32
  let c1_i32_208 : BitVec 32 := 1#32
  let v263 : BitVec 32 := Scalar.muli c2_i32_207 c1_i32_208
  let v264 : BitVec 32 := Scalar.addi c0_i32_209 v263
  v264.toNat
def k0_dev26 : Nat :=
  let c0_i32_216 : BitVec 32 := 0#32
  let c3_i32_214 : BitVec 32 := 3#32
  let c1_i32_215 : BitVec 32 := 1#32
  let v270 : BitVec 32 := Scalar.muli c3_i32_214 c1_i32_215
  let v271 : BitVec 32 := Scalar.addi c0_i32_216 v270
  v271.toNat
def k0_dev27 : Nat :=
  let c0_i32_223 : BitVec 32 := 0#32
  let c3_i32_221 : BitVec 32 := 3#32
  let c1_i32_222 : BitVec 32 := 1#32
  let v277 : BitVec 32 := Scalar.muli c3_i32_221 c1_i32_222
  let v278 : BitVec 32 := Scalar.addi c0_i32_223 v277
  v278.toNat
def k0_dev28 : Nat :=
  let c0_i32_230 : BitVec 32 := 0#32
  let c4_i32_228 : BitVec 32 := 4#32
  let c1_i32_229 : BitVec 32 := 1#32
  let v284 : BitVec 32 := Scalar.muli c4_i32_228 c1_i32_229
  let v285 : BitVec 32 := Scalar.addi c0_i32_230 v284
  v285.toNat
def k0_dev29 : Nat :=
  let c0_i32_237 : BitVec 32 := 0#32
  let c4_i32_235 : BitVec 32 := 4#32
  let c1_i32_236 : BitVec 32 := 1#32
  let v291 : BitVec 32 := Scalar.muli c4_i32_235 c1_i32_236
  let v292 : BitVec 32 := Scalar.addi c0_i32_237 v291
  v292.toNat
def k0_dev30 : Nat :=
  let c0_i32_244 : BitVec 32 := 0#32
  let c5_i32_242 : BitVec 32 := 5#32
  let c1_i32_243 : BitVec 32 := 1#32
  let v298 : BitVec 32 := Scalar.muli c5_i32_242 c1_i32_243
  let v299 : BitVec 32 := Scalar.addi c0_i32_244 v298
  v299.toNat
def k0_dev31 : Nat :=
  let c0_i32_251 : BitVec 32 := 0#32
  let c5_i32_249 : BitVec 32 := 5#32
  let c1_i32_250 : BitVec 32 := 1#32
  let v305 : BitVec 32 := Scalar.muli c5_i32_249 c1_i32_250
  let v306 : BitVec 32 := Scalar.addi c0_i32_251 v305
  v306.toNat
def k0_dev32 : Nat :=
  let c0_i32_258 : BitVec 32 := 0#32
  let c6_i32_256 : BitVec 32 := 6#32
  let c1_i32_257 : BitVec 32 := 1#32
  let v312 : BitVec 32 := Scalar.muli c6_i32_256 c1_i32_257
  let v313 : BitVec 32 := Scalar.addi c0_i32_258 v312
  v313.toNat
def k0_dev33 : Nat :=
  let c0_i32_265 : BitVec 32 := 0#32
  let c6_i32_263 : BitVec 32 := 6#32
  let c1_i32_264 : BitVec 32 := 1#32
  let v319 : BitVec 32 := Scalar.muli c6_i32_263 c1_i32_264
  let v320 : BitVec 32 := Scalar.addi c0_i32_265 v319
  v320.toNat
def k0_dev34 : Nat :=
  let c0_i32_272 : BitVec 32 := 0#32
  let c7_i32_270 : BitVec 32 := 7#32
  let c1_i32_271 : BitVec 32 := 1#32
  let v326 : BitVec 32 := Scalar.muli c7_i32_270 c1_i32_271
  let v327 : BitVec 32 := Scalar.addi c0_i32_272 v326
  v327.toNat
def k0_dev35 : Nat :=
  let c0_i32_279 : BitVec 32 := 0#32
  let c7_i32_277 : BitVec 32 := 7#32
  let c1_i32_278 : BitVec 32 := 1#32
  let v333 : BitVec 32 := Scalar.muli c7_i32_277 c1_i32_278
  let v334 : BitVec 32 := Scalar.addi c0_i32_279 v333
  v334.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_68 : BitVec 32 := 2#32
  let v101 : BitVec 1 := Scalar.cmpi .eq v2 c2_i32_68
  let v102 : BitVec 32 := Scalar.extui v101
  let c0_i32_69 : BitVec 32 := 0#32
  let v103 : BitVec 1 := Scalar.cmpi .ne v102 c0_i32_69
  v103

def k0_dev36 : Nat :=
  let c0_i32_189 : BitVec 32 := 0#32
  let c0_i32_187 : BitVec 32 := 0#32
  let c1_i32_188 : BitVec 32 := 1#32
  let v242 : BitVec 32 := Scalar.muli c0_i32_187 c1_i32_188
  let v243 : BitVec 32 := Scalar.addi c0_i32_189 v242
  v243.toNat
def k0_dev37 : Nat :=
  let c0_i32_196 : BitVec 32 := 0#32
  let c0_i32_194 : BitVec 32 := 0#32
  let c1_i32_195 : BitVec 32 := 1#32
  let v249 : BitVec 32 := Scalar.muli c0_i32_194 c1_i32_195
  let v250 : BitVec 32 := Scalar.addi c0_i32_196 v249
  v250.toNat
def k0_dev38 : Nat :=
  let c0_i32_203 : BitVec 32 := 0#32
  let c1_i32_201 : BitVec 32 := 1#32
  let c1_i32_202 : BitVec 32 := 1#32
  let v256 : BitVec 32 := Scalar.muli c1_i32_201 c1_i32_202
  let v257 : BitVec 32 := Scalar.addi c0_i32_203 v256
  v257.toNat
def k0_dev39 : Nat :=
  let c0_i32_210 : BitVec 32 := 0#32
  let c1_i32_208 : BitVec 32 := 1#32
  let c1_i32_209 : BitVec 32 := 1#32
  let v263 : BitVec 32 := Scalar.muli c1_i32_208 c1_i32_209
  let v264 : BitVec 32 := Scalar.addi c0_i32_210 v263
  v264.toNat
def k0_dev40 : Nat :=
  let c0_i32_217 : BitVec 32 := 0#32
  let c3_i32_215 : BitVec 32 := 3#32
  let c1_i32_216 : BitVec 32 := 1#32
  let v270 : BitVec 32 := Scalar.muli c3_i32_215 c1_i32_216
  let v271 : BitVec 32 := Scalar.addi c0_i32_217 v270
  v271.toNat
def k0_dev41 : Nat :=
  let c0_i32_224 : BitVec 32 := 0#32
  let c3_i32_222 : BitVec 32 := 3#32
  let c1_i32_223 : BitVec 32 := 1#32
  let v277 : BitVec 32 := Scalar.muli c3_i32_222 c1_i32_223
  let v278 : BitVec 32 := Scalar.addi c0_i32_224 v277
  v278.toNat
def k0_dev42 : Nat :=
  let c0_i32_231 : BitVec 32 := 0#32
  let c4_i32_229 : BitVec 32 := 4#32
  let c1_i32_230 : BitVec 32 := 1#32
  let v284 : BitVec 32 := Scalar.muli c4_i32_229 c1_i32_230
  let v285 : BitVec 32 := Scalar.addi c0_i32_231 v284
  v285.toNat
def k0_dev43 : Nat :=
  let c0_i32_238 : BitVec 32 := 0#32
  let c4_i32_236 : BitVec 32 := 4#32
  let c1_i32_237 : BitVec 32 := 1#32
  let v291 : BitVec 32 := Scalar.muli c4_i32_236 c1_i32_237
  let v292 : BitVec 32 := Scalar.addi c0_i32_238 v291
  v292.toNat
def k0_dev44 : Nat :=
  let c0_i32_245 : BitVec 32 := 0#32
  let c5_i32_243 : BitVec 32 := 5#32
  let c1_i32_244 : BitVec 32 := 1#32
  let v298 : BitVec 32 := Scalar.muli c5_i32_243 c1_i32_244
  let v299 : BitVec 32 := Scalar.addi c0_i32_245 v298
  v299.toNat
def k0_dev45 : Nat :=
  let c0_i32_252 : BitVec 32 := 0#32
  let c5_i32_250 : BitVec 32 := 5#32
  let c1_i32_251 : BitVec 32 := 1#32
  let v305 : BitVec 32 := Scalar.muli c5_i32_250 c1_i32_251
  let v306 : BitVec 32 := Scalar.addi c0_i32_252 v305
  v306.toNat
def k0_dev46 : Nat :=
  let c0_i32_259 : BitVec 32 := 0#32
  let c6_i32_257 : BitVec 32 := 6#32
  let c1_i32_258 : BitVec 32 := 1#32
  let v312 : BitVec 32 := Scalar.muli c6_i32_257 c1_i32_258
  let v313 : BitVec 32 := Scalar.addi c0_i32_259 v312
  v313.toNat
def k0_dev47 : Nat :=
  let c0_i32_266 : BitVec 32 := 0#32
  let c6_i32_264 : BitVec 32 := 6#32
  let c1_i32_265 : BitVec 32 := 1#32
  let v319 : BitVec 32 := Scalar.muli c6_i32_264 c1_i32_265
  let v320 : BitVec 32 := Scalar.addi c0_i32_266 v319
  v320.toNat
def k0_dev48 : Nat :=
  let c0_i32_273 : BitVec 32 := 0#32
  let c7_i32_271 : BitVec 32 := 7#32
  let c1_i32_272 : BitVec 32 := 1#32
  let v326 : BitVec 32 := Scalar.muli c7_i32_271 c1_i32_272
  let v327 : BitVec 32 := Scalar.addi c0_i32_273 v326
  v327.toNat
def k0_dev49 : Nat :=
  let c0_i32_280 : BitVec 32 := 0#32
  let c7_i32_278 : BitVec 32 := 7#32
  let c1_i32_279 : BitVec 32 := 1#32
  let v333 : BitVec 32 := Scalar.muli c7_i32_278 c1_i32_279
  let v334 : BitVec 32 := Scalar.addi c0_i32_280 v333
  v334.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_70 : BitVec 32 := 3#32
  let v104 : BitVec 1 := Scalar.cmpi .eq v2 c3_i32_70
  let v105 : BitVec 32 := Scalar.extui v104
  let c0_i32_71 : BitVec 32 := 0#32
  let v106 : BitVec 1 := Scalar.cmpi .ne v105 c0_i32_71
  v106

def k0_dev50 : Nat :=
  let c0_i32_189 : BitVec 32 := 0#32
  let c0_i32_187 : BitVec 32 := 0#32
  let c1_i32_188 : BitVec 32 := 1#32
  let v242 : BitVec 32 := Scalar.muli c0_i32_187 c1_i32_188
  let v243 : BitVec 32 := Scalar.addi c0_i32_189 v242
  v243.toNat
def k0_dev51 : Nat :=
  let c0_i32_195 : BitVec 32 := 0#32
  let c0_i32_193 : BitVec 32 := 0#32
  let c1_i32_194 : BitVec 32 := 1#32
  let v249 : BitVec 32 := Scalar.muli c0_i32_193 c1_i32_194
  let v250 : BitVec 32 := Scalar.addi c0_i32_195 v249
  v250.toNat
def k0_dev52 : Nat :=
  let c0_i32_202 : BitVec 32 := 0#32
  let c1_i32_200 : BitVec 32 := 1#32
  let c1_i32_201 : BitVec 32 := 1#32
  let v256 : BitVec 32 := Scalar.muli c1_i32_200 c1_i32_201
  let v257 : BitVec 32 := Scalar.addi c0_i32_202 v256
  v257.toNat
def k0_dev53 : Nat :=
  let c0_i32_209 : BitVec 32 := 0#32
  let c1_i32_207 : BitVec 32 := 1#32
  let c1_i32_208 : BitVec 32 := 1#32
  let v263 : BitVec 32 := Scalar.muli c1_i32_207 c1_i32_208
  let v264 : BitVec 32 := Scalar.addi c0_i32_209 v263
  v264.toNat
def k0_dev54 : Nat :=
  let c0_i32_216 : BitVec 32 := 0#32
  let c2_i32_214 : BitVec 32 := 2#32
  let c1_i32_215 : BitVec 32 := 1#32
  let v270 : BitVec 32 := Scalar.muli c2_i32_214 c1_i32_215
  let v271 : BitVec 32 := Scalar.addi c0_i32_216 v270
  v271.toNat
def k0_dev55 : Nat :=
  let c0_i32_223 : BitVec 32 := 0#32
  let c2_i32_221 : BitVec 32 := 2#32
  let c1_i32_222 : BitVec 32 := 1#32
  let v277 : BitVec 32 := Scalar.muli c2_i32_221 c1_i32_222
  let v278 : BitVec 32 := Scalar.addi c0_i32_223 v277
  v278.toNat
def k0_dev56 : Nat :=
  let c0_i32_230 : BitVec 32 := 0#32
  let c4_i32_228 : BitVec 32 := 4#32
  let c1_i32_229 : BitVec 32 := 1#32
  let v284 : BitVec 32 := Scalar.muli c4_i32_228 c1_i32_229
  let v285 : BitVec 32 := Scalar.addi c0_i32_230 v284
  v285.toNat
def k0_dev57 : Nat :=
  let c0_i32_237 : BitVec 32 := 0#32
  let c4_i32_235 : BitVec 32 := 4#32
  let c1_i32_236 : BitVec 32 := 1#32
  let v291 : BitVec 32 := Scalar.muli c4_i32_235 c1_i32_236
  let v292 : BitVec 32 := Scalar.addi c0_i32_237 v291
  v292.toNat
def k0_dev58 : Nat :=
  let c0_i32_244 : BitVec 32 := 0#32
  let c5_i32_242 : BitVec 32 := 5#32
  let c1_i32_243 : BitVec 32 := 1#32
  let v298 : BitVec 32 := Scalar.muli c5_i32_242 c1_i32_243
  let v299 : BitVec 32 := Scalar.addi c0_i32_244 v298
  v299.toNat
def k0_dev59 : Nat :=
  let c0_i32_251 : BitVec 32 := 0#32
  let c5_i32_249 : BitVec 32 := 5#32
  let c1_i32_250 : BitVec 32 := 1#32
  let v305 : BitVec 32 := Scalar.muli c5_i32_249 c1_i32_250
  let v306 : BitVec 32 := Scalar.addi c0_i32_251 v305
  v306.toNat
def k0_dev60 : Nat :=
  let c0_i32_258 : BitVec 32 := 0#32
  let c6_i32_256 : BitVec 32 := 6#32
  let c1_i32_257 : BitVec 32 := 1#32
  let v312 : BitVec 32 := Scalar.muli c6_i32_256 c1_i32_257
  let v313 : BitVec 32 := Scalar.addi c0_i32_258 v312
  v313.toNat
def k0_dev61 : Nat :=
  let c0_i32_265 : BitVec 32 := 0#32
  let c6_i32_263 : BitVec 32 := 6#32
  let c1_i32_264 : BitVec 32 := 1#32
  let v319 : BitVec 32 := Scalar.muli c6_i32_263 c1_i32_264
  let v320 : BitVec 32 := Scalar.addi c0_i32_265 v319
  v320.toNat
def k0_dev62 : Nat :=
  let c0_i32_272 : BitVec 32 := 0#32
  let c7_i32_270 : BitVec 32 := 7#32
  let c1_i32_271 : BitVec 32 := 1#32
  let v326 : BitVec 32 := Scalar.muli c7_i32_270 c1_i32_271
  let v327 : BitVec 32 := Scalar.addi c0_i32_272 v326
  v327.toNat
def k0_dev63 : Nat :=
  let c0_i32_279 : BitVec 32 := 0#32
  let c7_i32_277 : BitVec 32 := 7#32
  let c1_i32_278 : BitVec 32 := 1#32
  let v333 : BitVec 32 := Scalar.muli c7_i32_277 c1_i32_278
  let v334 : BitVec 32 := Scalar.addi c0_i32_279 v333
  v334.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_72 : BitVec 32 := 4#32
  let v107 : BitVec 1 := Scalar.cmpi .eq v2 c4_i32_72
  let v108 : BitVec 32 := Scalar.extui v107
  let c0_i32_73 : BitVec 32 := 0#32
  let v109 : BitVec 1 := Scalar.cmpi .ne v108 c0_i32_73
  v109

def k0_dev64 : Nat :=
  let c0_i32_189 : BitVec 32 := 0#32
  let c0_i32_187 : BitVec 32 := 0#32
  let c1_i32_188 : BitVec 32 := 1#32
  let v242 : BitVec 32 := Scalar.muli c0_i32_187 c1_i32_188
  let v243 : BitVec 32 := Scalar.addi c0_i32_189 v242
  v243.toNat
def k0_dev65 : Nat :=
  let c0_i32_196 : BitVec 32 := 0#32
  let c0_i32_194 : BitVec 32 := 0#32
  let c1_i32_195 : BitVec 32 := 1#32
  let v249 : BitVec 32 := Scalar.muli c0_i32_194 c1_i32_195
  let v250 : BitVec 32 := Scalar.addi c0_i32_196 v249
  v250.toNat
def k0_dev66 : Nat :=
  let c0_i32_203 : BitVec 32 := 0#32
  let c1_i32_201 : BitVec 32 := 1#32
  let c1_i32_202 : BitVec 32 := 1#32
  let v256 : BitVec 32 := Scalar.muli c1_i32_201 c1_i32_202
  let v257 : BitVec 32 := Scalar.addi c0_i32_203 v256
  v257.toNat
def k0_dev67 : Nat :=
  let c0_i32_210 : BitVec 32 := 0#32
  let c1_i32_208 : BitVec 32 := 1#32
  let c1_i32_209 : BitVec 32 := 1#32
  let v263 : BitVec 32 := Scalar.muli c1_i32_208 c1_i32_209
  let v264 : BitVec 32 := Scalar.addi c0_i32_210 v263
  v264.toNat
def k0_dev68 : Nat :=
  let c0_i32_217 : BitVec 32 := 0#32
  let c2_i32_215 : BitVec 32 := 2#32
  let c1_i32_216 : BitVec 32 := 1#32
  let v270 : BitVec 32 := Scalar.muli c2_i32_215 c1_i32_216
  let v271 : BitVec 32 := Scalar.addi c0_i32_217 v270
  v271.toNat
def k0_dev69 : Nat :=
  let c0_i32_224 : BitVec 32 := 0#32
  let c2_i32_222 : BitVec 32 := 2#32
  let c1_i32_223 : BitVec 32 := 1#32
  let v277 : BitVec 32 := Scalar.muli c2_i32_222 c1_i32_223
  let v278 : BitVec 32 := Scalar.addi c0_i32_224 v277
  v278.toNat
def k0_dev70 : Nat :=
  let c0_i32_231 : BitVec 32 := 0#32
  let c3_i32_229 : BitVec 32 := 3#32
  let c1_i32_230 : BitVec 32 := 1#32
  let v284 : BitVec 32 := Scalar.muli c3_i32_229 c1_i32_230
  let v285 : BitVec 32 := Scalar.addi c0_i32_231 v284
  v285.toNat
def k0_dev71 : Nat :=
  let c0_i32_238 : BitVec 32 := 0#32
  let c3_i32_236 : BitVec 32 := 3#32
  let c1_i32_237 : BitVec 32 := 1#32
  let v291 : BitVec 32 := Scalar.muli c3_i32_236 c1_i32_237
  let v292 : BitVec 32 := Scalar.addi c0_i32_238 v291
  v292.toNat
def k0_dev72 : Nat :=
  let c0_i32_245 : BitVec 32 := 0#32
  let c5_i32_243 : BitVec 32 := 5#32
  let c1_i32_244 : BitVec 32 := 1#32
  let v298 : BitVec 32 := Scalar.muli c5_i32_243 c1_i32_244
  let v299 : BitVec 32 := Scalar.addi c0_i32_245 v298
  v299.toNat
def k0_dev73 : Nat :=
  let c0_i32_252 : BitVec 32 := 0#32
  let c5_i32_250 : BitVec 32 := 5#32
  let c1_i32_251 : BitVec 32 := 1#32
  let v305 : BitVec 32 := Scalar.muli c5_i32_250 c1_i32_251
  let v306 : BitVec 32 := Scalar.addi c0_i32_252 v305
  v306.toNat
def k0_dev74 : Nat :=
  let c0_i32_259 : BitVec 32 := 0#32
  let c6_i32_257 : BitVec 32 := 6#32
  let c1_i32_258 : BitVec 32 := 1#32
  let v312 : BitVec 32 := Scalar.muli c6_i32_257 c1_i32_258
  let v313 : BitVec 32 := Scalar.addi c0_i32_259 v312
  v313.toNat
def k0_dev75 : Nat :=
  let c0_i32_266 : BitVec 32 := 0#32
  let c6_i32_264 : BitVec 32 := 6#32
  let c1_i32_265 : BitVec 32 := 1#32
  let v319 : BitVec 32 := Scalar.muli c6_i32_264 c1_i32_265
  let v320 : BitVec 32 := Scalar.addi c0_i32_266 v319
  v320.toNat
def k0_dev76 : Nat :=
  let c0_i32_273 : BitVec 32 := 0#32
  let c7_i32_271 : BitVec 32 := 7#32
  let c1_i32_272 : BitVec 32 := 1#32
  let v326 : BitVec 32 := Scalar.muli c7_i32_271 c1_i32_272
  let v327 : BitVec 32 := Scalar.addi c0_i32_273 v326
  v327.toNat
def k0_dev77 : Nat :=
  let c0_i32_280 : BitVec 32 := 0#32
  let c7_i32_278 : BitVec 32 := 7#32
  let c1_i32_279 : BitVec 32 := 1#32
  let v333 : BitVec 32 := Scalar.muli c7_i32_278 c1_i32_279
  let v334 : BitVec 32 := Scalar.addi c0_i32_280 v333
  v334.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_74 : BitVec 32 := 5#32
  let v110 : BitVec 1 := Scalar.cmpi .eq v2 c5_i32_74
  let v111 : BitVec 32 := Scalar.extui v110
  let c0_i32_75 : BitVec 32 := 0#32
  let v112 : BitVec 1 := Scalar.cmpi .ne v111 c0_i32_75
  v112

def k0_dev78 : Nat :=
  let c0_i32_189 : BitVec 32 := 0#32
  let c0_i32_187 : BitVec 32 := 0#32
  let c1_i32_188 : BitVec 32 := 1#32
  let v242 : BitVec 32 := Scalar.muli c0_i32_187 c1_i32_188
  let v243 : BitVec 32 := Scalar.addi c0_i32_189 v242
  v243.toNat
def k0_dev79 : Nat :=
  let c0_i32_195 : BitVec 32 := 0#32
  let c0_i32_193 : BitVec 32 := 0#32
  let c1_i32_194 : BitVec 32 := 1#32
  let v249 : BitVec 32 := Scalar.muli c0_i32_193 c1_i32_194
  let v250 : BitVec 32 := Scalar.addi c0_i32_195 v249
  v250.toNat
def k0_dev80 : Nat :=
  let c0_i32_202 : BitVec 32 := 0#32
  let c1_i32_200 : BitVec 32 := 1#32
  let c1_i32_201 : BitVec 32 := 1#32
  let v256 : BitVec 32 := Scalar.muli c1_i32_200 c1_i32_201
  let v257 : BitVec 32 := Scalar.addi c0_i32_202 v256
  v257.toNat
def k0_dev81 : Nat :=
  let c0_i32_209 : BitVec 32 := 0#32
  let c1_i32_207 : BitVec 32 := 1#32
  let c1_i32_208 : BitVec 32 := 1#32
  let v263 : BitVec 32 := Scalar.muli c1_i32_207 c1_i32_208
  let v264 : BitVec 32 := Scalar.addi c0_i32_209 v263
  v264.toNat
def k0_dev82 : Nat :=
  let c0_i32_216 : BitVec 32 := 0#32
  let c2_i32_214 : BitVec 32 := 2#32
  let c1_i32_215 : BitVec 32 := 1#32
  let v270 : BitVec 32 := Scalar.muli c2_i32_214 c1_i32_215
  let v271 : BitVec 32 := Scalar.addi c0_i32_216 v270
  v271.toNat
def k0_dev83 : Nat :=
  let c0_i32_223 : BitVec 32 := 0#32
  let c2_i32_221 : BitVec 32 := 2#32
  let c1_i32_222 : BitVec 32 := 1#32
  let v277 : BitVec 32 := Scalar.muli c2_i32_221 c1_i32_222
  let v278 : BitVec 32 := Scalar.addi c0_i32_223 v277
  v278.toNat
def k0_dev84 : Nat :=
  let c0_i32_230 : BitVec 32 := 0#32
  let c3_i32_228 : BitVec 32 := 3#32
  let c1_i32_229 : BitVec 32 := 1#32
  let v284 : BitVec 32 := Scalar.muli c3_i32_228 c1_i32_229
  let v285 : BitVec 32 := Scalar.addi c0_i32_230 v284
  v285.toNat
def k0_dev85 : Nat :=
  let c0_i32_237 : BitVec 32 := 0#32
  let c3_i32_235 : BitVec 32 := 3#32
  let c1_i32_236 : BitVec 32 := 1#32
  let v291 : BitVec 32 := Scalar.muli c3_i32_235 c1_i32_236
  let v292 : BitVec 32 := Scalar.addi c0_i32_237 v291
  v292.toNat
def k0_dev86 : Nat :=
  let c0_i32_244 : BitVec 32 := 0#32
  let c4_i32_242 : BitVec 32 := 4#32
  let c1_i32_243 : BitVec 32 := 1#32
  let v298 : BitVec 32 := Scalar.muli c4_i32_242 c1_i32_243
  let v299 : BitVec 32 := Scalar.addi c0_i32_244 v298
  v299.toNat
def k0_dev87 : Nat :=
  let c0_i32_251 : BitVec 32 := 0#32
  let c4_i32_249 : BitVec 32 := 4#32
  let c1_i32_250 : BitVec 32 := 1#32
  let v305 : BitVec 32 := Scalar.muli c4_i32_249 c1_i32_250
  let v306 : BitVec 32 := Scalar.addi c0_i32_251 v305
  v306.toNat
def k0_dev88 : Nat :=
  let c0_i32_258 : BitVec 32 := 0#32
  let c6_i32_256 : BitVec 32 := 6#32
  let c1_i32_257 : BitVec 32 := 1#32
  let v312 : BitVec 32 := Scalar.muli c6_i32_256 c1_i32_257
  let v313 : BitVec 32 := Scalar.addi c0_i32_258 v312
  v313.toNat
def k0_dev89 : Nat :=
  let c0_i32_265 : BitVec 32 := 0#32
  let c6_i32_263 : BitVec 32 := 6#32
  let c1_i32_264 : BitVec 32 := 1#32
  let v319 : BitVec 32 := Scalar.muli c6_i32_263 c1_i32_264
  let v320 : BitVec 32 := Scalar.addi c0_i32_265 v319
  v320.toNat
def k0_dev90 : Nat :=
  let c0_i32_272 : BitVec 32 := 0#32
  let c7_i32_270 : BitVec 32 := 7#32
  let c1_i32_271 : BitVec 32 := 1#32
  let v326 : BitVec 32 := Scalar.muli c7_i32_270 c1_i32_271
  let v327 : BitVec 32 := Scalar.addi c0_i32_272 v326
  v327.toNat
def k0_dev91 : Nat :=
  let c0_i32_279 : BitVec 32 := 0#32
  let c7_i32_277 : BitVec 32 := 7#32
  let c1_i32_278 : BitVec 32 := 1#32
  let v333 : BitVec 32 := Scalar.muli c7_i32_277 c1_i32_278
  let v334 : BitVec 32 := Scalar.addi c0_i32_279 v333
  v334.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_76 : BitVec 32 := 6#32
  let v113 : BitVec 1 := Scalar.cmpi .eq v2 c6_i32_76
  let v114 : BitVec 32 := Scalar.extui v113
  let c0_i32_77 : BitVec 32 := 0#32
  let v115 : BitVec 1 := Scalar.cmpi .ne v114 c0_i32_77
  v115

def k0_dev92 : Nat :=
  let c0_i32_189 : BitVec 32 := 0#32
  let c0_i32_187 : BitVec 32 := 0#32
  let c1_i32_188 : BitVec 32 := 1#32
  let v242 : BitVec 32 := Scalar.muli c0_i32_187 c1_i32_188
  let v243 : BitVec 32 := Scalar.addi c0_i32_189 v242
  v243.toNat
def k0_dev93 : Nat :=
  let c0_i32_196 : BitVec 32 := 0#32
  let c0_i32_194 : BitVec 32 := 0#32
  let c1_i32_195 : BitVec 32 := 1#32
  let v249 : BitVec 32 := Scalar.muli c0_i32_194 c1_i32_195
  let v250 : BitVec 32 := Scalar.addi c0_i32_196 v249
  v250.toNat
def k0_dev94 : Nat :=
  let c0_i32_203 : BitVec 32 := 0#32
  let c1_i32_201 : BitVec 32 := 1#32
  let c1_i32_202 : BitVec 32 := 1#32
  let v256 : BitVec 32 := Scalar.muli c1_i32_201 c1_i32_202
  let v257 : BitVec 32 := Scalar.addi c0_i32_203 v256
  v257.toNat
def k0_dev95 : Nat :=
  let c0_i32_210 : BitVec 32 := 0#32
  let c1_i32_208 : BitVec 32 := 1#32
  let c1_i32_209 : BitVec 32 := 1#32
  let v263 : BitVec 32 := Scalar.muli c1_i32_208 c1_i32_209
  let v264 : BitVec 32 := Scalar.addi c0_i32_210 v263
  v264.toNat
def k0_dev96 : Nat :=
  let c0_i32_217 : BitVec 32 := 0#32
  let c2_i32_215 : BitVec 32 := 2#32
  let c1_i32_216 : BitVec 32 := 1#32
  let v270 : BitVec 32 := Scalar.muli c2_i32_215 c1_i32_216
  let v271 : BitVec 32 := Scalar.addi c0_i32_217 v270
  v271.toNat
def k0_dev97 : Nat :=
  let c0_i32_224 : BitVec 32 := 0#32
  let c2_i32_222 : BitVec 32 := 2#32
  let c1_i32_223 : BitVec 32 := 1#32
  let v277 : BitVec 32 := Scalar.muli c2_i32_222 c1_i32_223
  let v278 : BitVec 32 := Scalar.addi c0_i32_224 v277
  v278.toNat
def k0_dev98 : Nat :=
  let c0_i32_231 : BitVec 32 := 0#32
  let c3_i32_229 : BitVec 32 := 3#32
  let c1_i32_230 : BitVec 32 := 1#32
  let v284 : BitVec 32 := Scalar.muli c3_i32_229 c1_i32_230
  let v285 : BitVec 32 := Scalar.addi c0_i32_231 v284
  v285.toNat
def k0_dev99 : Nat :=
  let c0_i32_238 : BitVec 32 := 0#32
  let c3_i32_236 : BitVec 32 := 3#32
  let c1_i32_237 : BitVec 32 := 1#32
  let v291 : BitVec 32 := Scalar.muli c3_i32_236 c1_i32_237
  let v292 : BitVec 32 := Scalar.addi c0_i32_238 v291
  v292.toNat
def k0_dev100 : Nat :=
  let c0_i32_245 : BitVec 32 := 0#32
  let c4_i32_243 : BitVec 32 := 4#32
  let c1_i32_244 : BitVec 32 := 1#32
  let v298 : BitVec 32 := Scalar.muli c4_i32_243 c1_i32_244
  let v299 : BitVec 32 := Scalar.addi c0_i32_245 v298
  v299.toNat
def k0_dev101 : Nat :=
  let c0_i32_252 : BitVec 32 := 0#32
  let c4_i32_250 : BitVec 32 := 4#32
  let c1_i32_251 : BitVec 32 := 1#32
  let v305 : BitVec 32 := Scalar.muli c4_i32_250 c1_i32_251
  let v306 : BitVec 32 := Scalar.addi c0_i32_252 v305
  v306.toNat
def k0_dev102 : Nat :=
  let c0_i32_259 : BitVec 32 := 0#32
  let c5_i32_257 : BitVec 32 := 5#32
  let c1_i32_258 : BitVec 32 := 1#32
  let v312 : BitVec 32 := Scalar.muli c5_i32_257 c1_i32_258
  let v313 : BitVec 32 := Scalar.addi c0_i32_259 v312
  v313.toNat
def k0_dev103 : Nat :=
  let c0_i32_266 : BitVec 32 := 0#32
  let c5_i32_264 : BitVec 32 := 5#32
  let c1_i32_265 : BitVec 32 := 1#32
  let v319 : BitVec 32 := Scalar.muli c5_i32_264 c1_i32_265
  let v320 : BitVec 32 := Scalar.addi c0_i32_266 v319
  v320.toNat
def k0_dev104 : Nat :=
  let c0_i32_273 : BitVec 32 := 0#32
  let c7_i32_271 : BitVec 32 := 7#32
  let c1_i32_272 : BitVec 32 := 1#32
  let v326 : BitVec 32 := Scalar.muli c7_i32_271 c1_i32_272
  let v327 : BitVec 32 := Scalar.addi c0_i32_273 v326
  v327.toNat
def k0_dev105 : Nat :=
  let c0_i32_280 : BitVec 32 := 0#32
  let c7_i32_278 : BitVec 32 := 7#32
  let c1_i32_279 : BitVec 32 := 1#32
  let v333 : BitVec 32 := Scalar.muli c7_i32_278 c1_i32_279
  let v334 : BitVec 32 := Scalar.addi c0_i32_280 v333
  v334.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_78 : BitVec 32 := 7#32
  let v116 : BitVec 1 := Scalar.cmpi .eq v2 c7_i32_78
  let v117 : BitVec 32 := Scalar.extui v116
  let c0_i32_79 : BitVec 32 := 0#32
  let v118 : BitVec 1 := Scalar.cmpi .ne v117 c0_i32_79
  v118

def k0_dev106 : Nat :=
  let c0_i32_189 : BitVec 32 := 0#32
  let c0_i32_187 : BitVec 32 := 0#32
  let c1_i32_188 : BitVec 32 := 1#32
  let v242 : BitVec 32 := Scalar.muli c0_i32_187 c1_i32_188
  let v243 : BitVec 32 := Scalar.addi c0_i32_189 v242
  v243.toNat
def k0_dev107 : Nat :=
  let c0_i32_195 : BitVec 32 := 0#32
  let c0_i32_193 : BitVec 32 := 0#32
  let c1_i32_194 : BitVec 32 := 1#32
  let v249 : BitVec 32 := Scalar.muli c0_i32_193 c1_i32_194
  let v250 : BitVec 32 := Scalar.addi c0_i32_195 v249
  v250.toNat
def k0_dev108 : Nat :=
  let c0_i32_202 : BitVec 32 := 0#32
  let c1_i32_200 : BitVec 32 := 1#32
  let c1_i32_201 : BitVec 32 := 1#32
  let v256 : BitVec 32 := Scalar.muli c1_i32_200 c1_i32_201
  let v257 : BitVec 32 := Scalar.addi c0_i32_202 v256
  v257.toNat
def k0_dev109 : Nat :=
  let c0_i32_209 : BitVec 32 := 0#32
  let c1_i32_207 : BitVec 32 := 1#32
  let c1_i32_208 : BitVec 32 := 1#32
  let v263 : BitVec 32 := Scalar.muli c1_i32_207 c1_i32_208
  let v264 : BitVec 32 := Scalar.addi c0_i32_209 v263
  v264.toNat
def k0_dev110 : Nat :=
  let c0_i32_216 : BitVec 32 := 0#32
  let c2_i32_214 : BitVec 32 := 2#32
  let c1_i32_215 : BitVec 32 := 1#32
  let v270 : BitVec 32 := Scalar.muli c2_i32_214 c1_i32_215
  let v271 : BitVec 32 := Scalar.addi c0_i32_216 v270
  v271.toNat
def k0_dev111 : Nat :=
  let c0_i32_223 : BitVec 32 := 0#32
  let c2_i32_221 : BitVec 32 := 2#32
  let c1_i32_222 : BitVec 32 := 1#32
  let v277 : BitVec 32 := Scalar.muli c2_i32_221 c1_i32_222
  let v278 : BitVec 32 := Scalar.addi c0_i32_223 v277
  v278.toNat
def k0_dev112 : Nat :=
  let c0_i32_230 : BitVec 32 := 0#32
  let c3_i32_228 : BitVec 32 := 3#32
  let c1_i32_229 : BitVec 32 := 1#32
  let v284 : BitVec 32 := Scalar.muli c3_i32_228 c1_i32_229
  let v285 : BitVec 32 := Scalar.addi c0_i32_230 v284
  v285.toNat
def k0_dev113 : Nat :=
  let c0_i32_237 : BitVec 32 := 0#32
  let c3_i32_235 : BitVec 32 := 3#32
  let c1_i32_236 : BitVec 32 := 1#32
  let v291 : BitVec 32 := Scalar.muli c3_i32_235 c1_i32_236
  let v292 : BitVec 32 := Scalar.addi c0_i32_237 v291
  v292.toNat
def k0_dev114 : Nat :=
  let c0_i32_244 : BitVec 32 := 0#32
  let c4_i32_242 : BitVec 32 := 4#32
  let c1_i32_243 : BitVec 32 := 1#32
  let v298 : BitVec 32 := Scalar.muli c4_i32_242 c1_i32_243
  let v299 : BitVec 32 := Scalar.addi c0_i32_244 v298
  v299.toNat
def k0_dev115 : Nat :=
  let c0_i32_251 : BitVec 32 := 0#32
  let c4_i32_249 : BitVec 32 := 4#32
  let c1_i32_250 : BitVec 32 := 1#32
  let v305 : BitVec 32 := Scalar.muli c4_i32_249 c1_i32_250
  let v306 : BitVec 32 := Scalar.addi c0_i32_251 v305
  v306.toNat
def k0_dev116 : Nat :=
  let c0_i32_258 : BitVec 32 := 0#32
  let c5_i32_256 : BitVec 32 := 5#32
  let c1_i32_257 : BitVec 32 := 1#32
  let v312 : BitVec 32 := Scalar.muli c5_i32_256 c1_i32_257
  let v313 : BitVec 32 := Scalar.addi c0_i32_258 v312
  v313.toNat
def k0_dev117 : Nat :=
  let c0_i32_265 : BitVec 32 := 0#32
  let c5_i32_263 : BitVec 32 := 5#32
  let c1_i32_264 : BitVec 32 := 1#32
  let v319 : BitVec 32 := Scalar.muli c5_i32_263 c1_i32_264
  let v320 : BitVec 32 := Scalar.addi c0_i32_265 v319
  v320.toNat
def k0_dev118 : Nat :=
  let c0_i32_272 : BitVec 32 := 0#32
  let c6_i32_270 : BitVec 32 := 6#32
  let c1_i32_271 : BitVec 32 := 1#32
  let v326 : BitVec 32 := Scalar.muli c6_i32_270 c1_i32_271
  let v327 : BitVec 32 := Scalar.addi c0_i32_272 v326
  v327.toNat
def k0_dev119 : Nat :=
  let c0_i32_279 : BitVec 32 := 0#32
  let c6_i32_277 : BitVec 32 := 6#32
  let c1_i32_278 : BitVec 32 := 1#32
  let v333 : BitVec 32 := Scalar.muli c6_i32_277 c1_i32_278
  let v334 : BitVec 32 := Scalar.addi c0_i32_279 v333
  v334.toNat
abbrev stage0_0 : Fin 1 → Memref sig .tc .vmem S4096x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e4m3⟩
  | .local _ .vmem, ⟨1, _⟩ => ⟨S4096x2048, .fp8e5m2⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Program.lean ====
/-
  The kernel's text with its device as a variable. The printed body asks for its device and then branches on it
  eight times over, once per device it could be; here the same operations are written once, for a device `me`, as
  loops over its peers, and `body_eq` says that the printed body is this program at the device it asks for.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Gather

open Cert.KernelIdeal Cert.KernelIdeal.Gen
open Idealize.ShloMosaic
open Idealize.ShloMosaic.TcCoe
open Idealize.SL.Sem

variable {F : FTy → Type} [FloatOps F]

/-- What a kernel body is: a program of the machine's operations. -/
abbrev Run (F : FTy → Type) (A : Type) : Type 1 := Prog (TpuEff nD τ sig (Elt F) Λ₀ .tc) A

/-! ## Loops over lists -/

/-- `body` at each entry of the list, in order. -/
def each {A : Type} : List A → (A → Run F PUnit) → Run F PUnit
  | [], _ => .ret ⟨⟩
  | a :: l, body => (body a).bind fun _ => each l body

/-- The other devices, in ascending order: whom a device sends to, and hears from. -/
def peers : Dev nD → List (Dev nD)
  | 0 => [1, 2, 3, 4, 5, 6, 7]
  | 1 => [0, 2, 3, 4, 5, 6, 7]
  | 2 => [0, 1, 3, 4, 5, 6, 7]
  | 3 => [0, 1, 2, 4, 5, 6, 7]
  | 4 => [0, 1, 2, 3, 5, 6, 7]
  | 5 => [0, 1, 2, 3, 4, 6, 7]
  | 6 => [0, 1, 2, 3, 4, 5, 7]
  | 7 => [0, 1, 2, 3, 4, 5, 6]

/-- The other devices, going round from the next one: whose barrier semaphores a device signals. -/
def ring : Dev nD → List (Dev nD)
  | 0 => [1, 2, 3, 4, 5, 6, 7]
  | 1 => [2, 3, 4, 5, 6, 7, 0]
  | 2 => [3, 4, 5, 6, 7, 0, 1]
  | 3 => [4, 5, 6, 7, 0, 1, 2]
  | 4 => [5, 6, 7, 0, 1, 2, 3]
  | 5 => [6, 7, 0, 1, 2, 3, 4]
  | 6 => [7, 0, 1, 2, 3, 4, 5]
  | 7 => [0, 1, 2, 3, 4, 5, 6]

theorem peers_toFinset : ∀ c : Dev nD, (peers c).toFinset = Finset.univ.erase c := by decide
theorem peers_nodup : ∀ c : Dev nD, (peers c).Nodup := by decide
theorem ring_toFinset : ∀ c : Dev nD, (ring c).toFinset = Finset.univ.erase c := by decide
theorem ring_nodup : ∀ c : Dev nD, (ring c).Nodup := by decide

/-! ## The buffers -/

/-- The device's own block of the first operand, as the body finds it. -/
abbrev xM : Memref sig .tc .vmem S4096x512 .fp8e4m3 := Memref.whole cc0_stg0_0
/-- The device's own block of the second operand. -/
abbrev wM : Memref sig .tc .vmem S512x2048 .fp8e5m2 := Memref.whole cc0_stg1_0
/-- The two scales. -/
abbrev sxM : Memref sig .tc .smem S1 .f32 := Memref.whole cc0_stg2_0
abbrev swM : Memref sig .tc .smem S1 .f32 := Memref.whole cc0_stg3_0
/-- The result. -/
abbrev outM : Memref sig .tc .hbm S4096x2048 .f32 := Memref.whole main_v1
/-- Where the eight blocks of the first operand are put side by side. -/
abbrev xcM : Memref sig .tc .vmem S4096x4096 .fp8e4m3 := Memref.whole cc0_scratch0
/-- Where the eight blocks of the second operand are put one under the other. -/
abbrev wcM : Memref sig .tc .vmem S4096x2048 .fp8e5m2 := Memref.whole cc0_scratch1
/-- The two places where a chunk of the result is computed. -/
abbrev accM : Memref sig .tc .vmem S2x1024x2048 .f32 := Memref.whole cc0_scratch2

theorem xslot_inb (j : Fin 8) : ∀ a, (![0, 512 * j.val] : Fin 2 → Nat) a + S4096x512.size a ≤ S4096x4096.size a := by
  revert j; decide
theorem wslot_inb (j : Fin 8) : ∀ a, (![512 * j.val, 0] : Fin 2 → Nat) a + S512x2048.size a ≤ S4096x2048.size a := by
  revert j; decide
theorem chunk_inb (i : Fin 4) : ∀ a, (![1024 * i.val, 0] : Fin 2 → Nat) a + S1024x4096.size a ≤ S4096x4096.size a := by
  revert i; decide
theorem outc_inb (i : Fin 4) : ∀ a, (![1024 * i.val, 0] : Fin 2 → Nat) a + S1024x2048.size a ≤ S4096x2048.size a := by
  revert i; decide
theorem acc_inb (b : Fin 2) : ∀ a, (![b.val, 0, 0] : Fin 3 → Nat) a + S1x1024x2048.size a ≤ S2x1024x2048.size a := by
  revert b; decide

/-- Columns `512 j` to `512 (j + 1)`: where device `j`'s block of the first operand goes. -/
abbrev xR (j : Fin 8) : Rect S4096x4096 := Rect.unit ![0, 512 * j.val] S4096x512.size (xslot_inb j)
/-- Rows `512 j` to `512 (j + 1)`: where device `j`'s block of the second operand goes. -/
abbrev wR (j : Fin 8) : Rect S4096x2048 := Rect.unit ![512 * j.val, 0] S512x2048.size (wslot_inb j)
/-- Rows `1024 i` to `1024 (i + 1)` of the gathered first operand. -/
abbrev chunkR (i : Fin 4) : Rect S4096x4096 := Rect.unit ![1024 * i.val, 0] S1024x4096.size (chunk_inb i)
/-- Rows `1024 i` to `1024 (i + 1)` of the result. -/
abbrev outR (i : Fin 4) : Rect S4096x2048 := Rect.unit ![1024 * i.val, 0] S1024x2048.size (outc_inb i)
/-- One of the two places. -/
abbrev accR (b : Fin 2) : Rect S2x1024x2048 := Rect.unit ![b.val, 0, 0] S1x1024x2048.size (acc_inb b)

abbrev xSlot (j : Fin 8) : Memref sig .tc .vmem S4096x512 .fp8e4m3 := xcM.slice (xR j) (fun _ => rfl)
abbrev wSlot (j : Fin 8) : Memref sig .tc .vmem S512x2048 .fp8e5m2 := wcM.slice (wR j) (fun _ => rfl)
abbrev outChunk (i : Fin 4) : Memref sig .tc .hbm S1024x2048 .f32 := outM.slice (outR i) (fun _ => rfl)
abbrev accSlot (b : Fin 2) : Memref sig .tc .vmem S1024x2048 .f32 :=
  (accM.slice (accR b) (fun _ => rfl)).squeeze S1024x2048 squeezes_S1x1024x2048_S1024x2048

/-! ## The semaphores -/

/-- The semaphore a copy of the first operand to device `p` signals here when it has left. -/
abbrev xSend (p : Fin 8) : DmaSem sig := ⟨4 + p.val, by have := p.isLt; show _ < 38; omega⟩
/-- The semaphore device `j`'s block of the first operand signals when it has arrived. -/
abbrev xRecv (j : Fin 8) : DmaSem sig := ⟨12 + j.val, by have := j.isLt; show _ < 38; omega⟩
/-- The same two for the second operand. -/
abbrev wSend (p : Fin 8) : DmaSem sig := ⟨20 + p.val, by have := p.isLt; show _ < 38; omega⟩
abbrev wRecv (j : Fin 8) : DmaSem sig := ⟨28 + j.val, by have := j.isLt; show _ < 38; omega⟩
/-- The semaphore a chunk's copy to the result signals. -/
abbrev cSem (b : Fin 2) : DmaSem sig := ⟨36 + b.val, by have := b.isLt; show _ < 38; omega⟩
/-- The barrier semaphore. -/
abbrev barS : Sem sig := (SemArray.scalar (sig.barrier 0 rfl) : Sems sig S_).sem

/-! ## Whole words: the side conditions of the transfers -/

theorem xSlot_words : (j : Fin 8) → (xR j).WholeWords (EltTy.packing .fp8e4m3)
  | 0 => wordsfp8e4m3_S4096x4096_S4096x512_0_0
  | 1 => wordsfp8e4m3_S4096x4096_S4096x512_0_512
  | 2 => wordsfp8e4m3_S4096x4096_S4096x512_0_1024
  | 3 => wordsfp8e4m3_S4096x4096_S4096x512_0_1536
  | 4 => wordsfp8e4m3_S4096x4096_S4096x512_0_2048
  | 5 => wordsfp8e4m3_S4096x4096_S4096x512_0_2560
  | 6 => wordsfp8e4m3_S4096x4096_S4096x512_0_3072
  | 7 => wordsfp8e4m3_S4096x4096_S4096x512_0_3584
theorem wSlot_words : (j : Fin 8) → (wR j).WholeWords (EltTy.packing .fp8e5m2)
  | 0 => wordsfp8e5m2_S4096x2048_S512x2048_0_0
  | 1 => wordsfp8e5m2_S4096x2048_S512x2048_512_0
  | 2 => wordsfp8e5m2_S4096x2048_S512x2048_1024_0
  | 3 => wordsfp8e5m2_S4096x2048_S512x2048_1536_0
  | 4 => wordsfp8e5m2_S4096x2048_S512x2048_2048_0
  | 5 => wordsfp8e5m2_S4096x2048_S512x2048_2560_0
  | 6 => wordsfp8e5m2_S4096x2048_S512x2048_3072_0
  | 7 => wordsfp8e5m2_S4096x2048_S512x2048_3584_0
theorem xSlot_packed : (j : Fin 8) → (xR j).PackedRows (EltTy.packing .fp8e4m3)
  | 0 => packedfp8e4m3_S4096x4096_S4096x512_0_0
  | 1 => packedfp8e4m3_S4096x4096_S4096x512_0_512
  | 2 => packedfp8e4m3_S4096x4096_S4096x512_0_1024
  | 3 => packedfp8e4m3_S4096x4096_S4096x512_0_1536
  | 4 => packedfp8e4m3_S4096x4096_S4096x512_0_2048
  | 5 => packedfp8e4m3_S4096x4096_S4096x512_0_2560
  | 6 => packedfp8e4m3_S4096x4096_S4096x512_0_3072
  | 7 => packedfp8e4m3_S4096x4096_S4096x512_0_3584
theorem wSlot_packed : (j : Fin 8) → (wR j).PackedRows (EltTy.packing .fp8e5m2)
  | 0 => packedfp8e5m2_S4096x2048_S512x2048_0_0
  | 1 => packedfp8e5m2_S4096x2048_S512x2048_512_0
  | 2 => packedfp8e5m2_S4096x2048_S512x2048_1024_0
  | 3 => packedfp8e5m2_S4096x2048_S512x2048_1536_0
  | 4 => packedfp8e5m2_S4096x2048_S512x2048_2048_0
  | 5 => packedfp8e5m2_S4096x2048_S512x2048_2560_0
  | 6 => packedfp8e5m2_S4096x2048_S512x2048_3072_0
  | 7 => packedfp8e5m2_S4096x2048_S512x2048_3584_0

theorem xM_exact : xM.view.WordExact := (Memref.isWhole_whole cc0_stg0_0).wordExact
theorem wM_exact : wM.view.WordExact := (Memref.isWhole_whole cc0_stg1_0).wordExact
theorem xSlot_exact (j : Fin 8) : (xSlot j).view.WordExact :=
  (Memref.isWhole_whole cc0_scratch0).wordExact_slice rfl _ (xSlot_words j)
theorem wSlot_exact (j : Fin 8) : (wSlot j).view.WordExact :=
  (Memref.isWhole_whole cc0_scratch1).wordExact_slice rfl _ (wSlot_words j)
theorem outChunk_exact (i : Fin 4) : (outChunk i).view.WordExact := View.wordExact_bits rfl
theorem accSlot_exact (b : Fin 2) : (accSlot b).view.WordExact := (View.wordExact_bits rfl).reshape _ _

/-! ## The steps -/

/-- Signal device `p`'s barrier semaphore. -/
def signalStep (p : Dev nD) : Run F PUnit := semSignalWord p barS 1#32

/-- Send both blocks to device `p`. -/
def sendStep (me p : Dev nD) : Run F PUnit :=
  .op (.enqueueDma xM (.remote (Dev.tc p) (xSlot me) (.dma (xSend p))) (.dma (xRecv me)) xM_exact (xSlot_exact me)
    ⟨⟨rfl, Or.inl rfl⟩, trivial⟩) fun _ =>
  .op (.enqueueDma wM (.remote (Dev.tc p) (wSlot me) (.dma (wSend p))) (.dma (wRecv me)) wM_exact (wSlot_exact me)
    ⟨⟨rfl, Or.inl rfl⟩, trivial⟩) fun _ => .ret ⟨⟩

/-- Put the device's own blocks in their places. -/
def placeStep (me : Dev nD) : Run F PUnit :=
  .op (.load xM (Rect.unit (s := S4096x512) ![0, 0] S4096x512.size inb_S4096x512_S4096x512_0_0).toLoadRect
    (View.loadsAt_vmem h_S4096x512)) fun v =>
  .op (.load xcM (xR me).toLoadRect (View.loadsAt_vmem h_S4096x512)) fun _ =>
  .op (.store xcM (xR me) (k0_pay1 v) Finset.univ (View.stores_vmem h_S4096x512
    ((Memref.isWhole_whole cc0_scratch0).storeExact_slice rfl _ (xSlot_packed me)) (fun _ => rfl)) (.inl rfl)) fun _ =>
  .op (.load wM (Rect.unit (s := S512x2048) ![0, 0] S512x2048.size inb_S512x2048_S512x2048_0_0).toLoadRect
    (View.loadsAt_vmem h_S512x2048)) fun v =>
  .op (.load wcM (wR me).toLoadRect (View.loadsAt_vmem h_S512x2048)) fun _ =>
  .op (.store wcM (wR me) (k0_pay2 v) Finset.univ (View.stores_vmem h_S512x2048
    ((Memref.isWhole_whole cc0_scratch1).storeExact_slice rfl _ (wSlot_packed me)) (fun _ => rfl)) (.inl rfl)) fun _ =>
  .ret ⟨⟩

/-- Wait for device `j`'s blocks. -/
def recvStep (j : Dev nD) : Run F PUnit :=
  .op (.waitDma2 (xRecv j) xM (xSlot j) xM_exact (xSlot_exact j)) fun _ =>
  .op (.waitDma2 (wRecv j) wM (wSlot j) wM_exact (wSlot_exact j)) fun _ => .ret ⟨⟩

/-- Wait for the copies to device `p` to have left. -/
def sentStep (me p : Dev nD) : Run F PUnit :=
  .op (.waitDma2 (xSend p) (xSlot me) xM (xSlot_exact me) xM_exact) fun _ =>
  .op (.waitDma2 (wSend p) (wSlot me) wM (wSlot_exact me) wM_exact) fun _ => .ret ⟨⟩

/-- Compute chunk `i` of the result in place `b`, from the scales' product `s`. -/
def prodStep (i : Fin 4) (b : Fin 2) (s : F .f32) : Run F PUnit :=
  .op (.load xcM (chunkR i).toLoadRect (View.loadsAt_vmem h_S1024x4096)) fun v =>
  .op (.load wcM (Rect.unit (s := S4096x2048) ![0, 0] S4096x2048.size inb_S4096x2048_S4096x2048_0_0).toLoadRect
    (View.loadsAt_vmem h_S4096x2048)) fun w =>
  .op (.load accM (accR b).toLoadRect (View.loadsAt_vmem h_S1x1024x2048)) fun _ =>
  .op (.store accM (accR b) (k0_pay19 s v w) Finset.univ (View.stores_vmem_bits_univ h_S1x1024x2048 rfl)
    (.inl rfl)) fun _ => .ret ⟨⟩

/-- Start copying place `b` to chunk `i` of the result. -/
def putStep (i : Fin 4) (b : Fin 2) : Run F PUnit :=
  .op (.enqueueDma (accSlot b) (.here (outChunk i)) (.dma (cSem b)) (accSlot_exact b) (outChunk_exact i)
    ⟨Or.inl rfl, trivial⟩) fun _ => .ret ⟨⟩

/-- Wait for that copy. -/
def putWait (i : Fin 4) (b : Fin 2) : Run F PUnit :=
  .op (.waitDma2 (cSem b) (accSlot b) (outChunk i) (accSlot_exact b) (outChunk_exact i)) fun _ => .ret ⟨⟩

/-- The four chunks of the result, two copies under way at a time. -/
def chunks (s : F .f32) : Run F PUnit :=
  (prodStep 0 0 s).bind fun _ => (putStep 0 0).bind fun _ =>
  (prodStep 1 1 s).bind fun _ => (putStep 1 1).bind fun _ =>
  (putWait 0 0).bind fun _ => (prodStep 2 0 s).bind fun _ => (putStep 2 0).bind fun _ =>
  (putWait 1 1).bind fun _ => (prodStep 3 1 s).bind fun _ => (putStep 3 1).bind fun _ =>
  (putWait 2 0).bind fun _ => putWait 3 1

/-- The body of device `me`. -/
def deviceBody (me : Dev nD) : Run F PUnit :=
  (each (ring me) signalStep).bind fun _ =>
  (semWaitWord barS 7#32).bind fun _ =>
  (each (peers me) (sendStep me)).bind fun _ =>
  (placeStep me).bind fun _ =>
  (each (peers me) recvStep).bind fun _ =>
  (smemLoad sxM (Rect.unit (s := S1) ![0] S1.size inb_S1_S1_0) numel1_S1 rfl).bind fun a =>
  (smemLoad swM (Rect.unit (s := S1) ![0] S1.size inb_S1_S1_0) numel1_S1 rfl).bind fun b =>
  (chunks (k0_pay17 a b)).bind fun _ =>
  each (peers me) (sentStep me)

/-- The printed body on the buffers the launch gives it. -/
abbrev printedBody : Run F PUnit :=
  cc0_body xM (Memref.isWhole_whole _) wM (Memref.isWhole_whole _) sxM (Memref.isWhole_whole _)
    swM (Memref.isWhole_whole _) outM (Memref.isWhole_whole _) xcM (Memref.isWhole_whole _)
    wcM (Memref.isWhole_whole _) accM (Memref.isWhole_whole _) cc0_scratch3 cc0_scratch4 cc0_scratch5 cc0_scratch6 cc0_scratch7

/-- What a program that begins by asking for its device does on device `d`. -/
def onDevice (d : Dev nD) : Run F PUnit → Run F PUnit
  | .op .deviceId k => k d
  | p => p

/-- The printed body asks for its device first. -/
theorem body_asks : printedBody (F := F) = .op .deviceId fun d => onDevice d printedBody := by
  chain_rfl

/-- On each device the printed body runs that device's program: its branches are decided there. -/
theorem body_on : (d : Dev nD) → onDevice d (printedBody (F := F)) = deviceBody d
  | 0 => by chain_rfl
  | 1 => by chain_rfl
  | 2 => by chain_rfl
  | 3 => by chain_rfl
  | 4 => by chain_rfl
  | 5 => by chain_rfl
  | 6 => by chain_rfl
  | 7 => by chain_rfl

/-- The printed body is: ask for the device, then run its program. -/
theorem body_eq : printedBody (F := F) = .op .deviceId deviceBody :=
  body_asks.trans (congrArg (Prog.op TpuEff.deviceId) (funext body_on))

end Cert.Gather
end
-- ==== Proof.Tiling.lean ====
/-
  How the buffers are cut: the eight column blocks of the gathered first operand, the eight row blocks of the
  gathered second, the four row chunks of the result and the two places for a chunk under way. In each case the
  parts are apart from each other and make up the whole buffer.
-/
module

public import proofs.«01_k».proof.Proof.Program

@[expose] public section

noncomputable section

namespace Cert.Gather

open Cert.KernelIdeal Cert.KernelIdeal.Gen
open Idealize.ShloMosaic
open Idealize.ShloMosaic.TcCoe

/-- Blocks `j` and `j'` of one length have no coordinate in common. -/
theorem blocks_apart {n : Nat} (L : Nat) {j j' : Fin n} (h : j ≠ j') : L * j.val + L ≤ L * j'.val ∨ L * j'.val + L ≤ L * j.val := by
  rcases Nat.lt_or_gt_of_ne (fun e => h (Fin.ext e)) with h | h
  · exact .inl (by rw [← Nat.mul_succ]; exact Nat.mul_le_mul_left _ h)
  · exact .inr (by rw [← Nat.mul_succ]; exact Nat.mul_le_mul_left _ h)

theorem xR_disjoint (j j' : Fin 8) (h : j ≠ j') : Disjoint (xR j).set (xR j').set :=
  Rect.unit_disjoint 1 (blocks_apart 512 h)
theorem wR_disjoint (j j' : Fin 8) (h : j ≠ j') : Disjoint (wR j).set (wR j').set :=
  Rect.unit_disjoint 0 (blocks_apart 512 h)
theorem outR_disjoint (i i' : Fin 4) (h : i ≠ i') : Disjoint (outR i).set (outR i').set :=
  Rect.unit_disjoint 0 (blocks_apart 1024 h)
theorem accR_disjoint (b b' : Fin 2) (h : b ≠ b') : Disjoint (accR b).set (accR b').set :=
  Rect.unit_disjoint 0 (by have := blocks_apart 1 h; simpa using this)

/-- Where a coordinate is in blocks of length `L`: in block `v / L`, and no further than that block goes. -/
theorem in_block {v L : Nat} (hL : 0 < L) : L * (v / L) ≤ v ∧ v < L * (v / L) + L := by
  have h := Nat.div_add_mod v L
  have h' := Nat.mod_lt v hL
  omega

theorem xR_cover : (Finset.univ : Finset (Fin 8)).biUnion (fun j => (xR j).set) = Finset.univ := by
  ext i
  simp only [Finset.mem_biUnion, Finset.mem_univ, true_and, iff_true]
  have h1 : (i 1).val < 4096 := (i 1).isLt
  exact ⟨⟨(i 1).val / 512, by omega⟩, Rect.mem_set_unit.mpr (Fin.forall_fin_two.mpr
    ⟨⟨Nat.zero_le _, lt_of_lt_of_eq (i 0).isLt (Nat.zero_add _).symm⟩, in_block (by decide)⟩)⟩
theorem wR_cover : (Finset.univ : Finset (Fin 8)).biUnion (fun j => (wR j).set) = Finset.univ := by
  ext i
  simp only [Finset.mem_biUnion, Finset.mem_univ, true_and, iff_true]
  have h1 : (i 0).val < 4096 := (i 0).isLt
  exact ⟨⟨(i 0).val / 512, by omega⟩, Rect.mem_set_unit.mpr (Fin.forall_fin_two.mpr
    ⟨in_block (by decide), ⟨Nat.zero_le _, lt_of_lt_of_eq (i 1).isLt (Nat.zero_add _).symm⟩⟩)⟩
theorem outR_cover : (Finset.univ : Finset (Fin 4)).biUnion (fun i => (outR i).set) = Finset.univ := by
  ext i
  simp only [Finset.mem_biUnion, Finset.mem_univ, true_and, iff_true]
  have h1 : (i 0).val < 4096 := (i 0).isLt
  exact ⟨⟨(i 0).val / 1024, by omega⟩, Rect.mem_set_unit.mpr (Fin.forall_fin_two.mpr
    ⟨in_block (by decide), ⟨Nat.zero_le _, lt_of_lt_of_eq (i 1).isLt (Nat.zero_add _).symm⟩⟩)⟩
theorem accR_cover : (Finset.univ : Finset (Fin 2)).biUnion (fun b => (accR b).set) = Finset.univ := by
  ext i
  simp only [Finset.mem_biUnion, Finset.mem_univ, true_and, iff_true]
  refine ⟨i 0, Rect.mem_set_unit.mpr fun a => ?_⟩
  have ha := (i a).isLt
  fin_cases a
  · exact ⟨le_refl _, Nat.lt_succ_self _⟩
  · exact ⟨Nat.zero_le _, lt_of_lt_of_eq ha (Nat.zero_add _).symm⟩
  · exact ⟨Nat.zero_le _, lt_of_lt_of_eq ha (Nat.zero_add _).symm⟩

/-! The elements under each memref are its rectangle's. -/

theorem xSlot_set (j : Fin 8) : (xSlot j).view.set = (xR j).set := View.set_slice_whole _ _
theorem wSlot_set (j : Fin 8) : (wSlot j).view.set = (wR j).set := View.set_slice_whole _ _
theorem outChunk_set (i : Fin 4) : (outChunk i).view.set = (outR i).set := View.set_slice_whole _ _
theorem accSlot_set (b : Fin 2) : (accSlot b).view.set = (accR b).set :=
  (View.set_reshape _ _).trans (View.set_slice_whole _ _)
theorem xM_set : xM.view.set = Finset.univ := View.set_whole _
theorem wM_set : wM.view.set = Finset.univ := View.set_whole _

end Cert.Gather
end
-- ==== Proof.Contents.lean ====
/-
  What the buffers hold. Each device starts with its block of the two operands and with the two scales; after the
  exchange every device holds the same gathered operands `XG` and `WG`, whose blocks are the devices' blocks; chunk
  `i` of device `c`'s result is the product of rows `1024 i` to `1024 (i + 1)` of `XG` with `WG`, scaled.
-/
module

public import proofs.«01_k».proof.Proof.Tiling
public import Idealize.ShloMosaic.Lib.Pipeline.Value

@[expose] public section

noncomputable section

namespace Cert.Gather

open Cert.KernelIdeal Cert.KernelIdeal.Gen
open Idealize.ShloMosaic
open Idealize.ShloMosaic.TcCoe

variable {F : FTy → Type} [FloatOps F]
variable (m : (ℓ : Loc nD τ sig) → Buf (Elt F) ℓ)

/-! ## What a device starts with -/

/-- Device `c`'s block of the first operand, as the body finds it. -/
def xOf (c : Dev nD) : (cc0_stg0_0 : Ref sig .tc).ty.Contents (Elt F) :=
  (win0_0.blk (0 : Fin 1)).view.read (Elt F) (m ((c : Thread nD τ).loc main_arg0))
/-- Its block of the second. -/
def wOf (c : Dev nD) : (cc0_stg1_0 : Ref sig .tc).ty.Contents (Elt F) :=
  (win0_1.blk (0 : Fin 1)).view.read (Elt F) (m ((c : Thread nD τ).loc main_arg1))
/-- The first operand's scale. -/
def sxOf (c : Dev nD) : (cc0_stg2_0 : Ref sig .tc).ty.Contents (Elt F) :=
  (win0_2.blk (0 : Fin 1)).view.read (Elt F) (m ((c : Thread nD τ).loc main_arg2))
/-- The second's. -/
def swOf (c : Dev nD) : (cc0_stg3_0 : Ref sig .tc).ty.Contents (Elt F) :=
  (win0_3.blk (0 : Fin 1)).view.read (Elt F) (m ((c : Thread nD τ).loc main_arg3))

/-! ## What is gathered -/

/-- The first operand gathered: column block `j` is device `j`'s. -/
def XG : (cc0_scratch0 : Ref sig .tc).ty.Contents (Elt F) := Rect.glue xR xR_cover fun j => xOf m j
/-- The second: row block `j` is device `j`'s. -/
def WG : (cc0_scratch1 : Ref sig .tc).ty.Contents (Elt F) := Rect.glue wR wR_cover fun j => wOf m j

theorem read_XG (j : Fin 8) : (xSlot j).view.read (Elt F) (XG m) = xOf m j :=
  funext fun y => Rect.glue_emb xR xR_cover xR_disjoint (fun j => xOf m j) j y
theorem read_WG (j : Fin 8) : (wSlot j).view.read (Elt F) (WG m) = wOf m j :=
  funext fun y => Rect.glue_emb wR wR_cover wR_disjoint (fun j => wOf m j) j y

/-! ## The result -/

/-- The one index of a scale. -/
abbrev one : S1.Idx := Shape.Idx.first (numel1_S1.symm ▸ Nat.one_pos)

theorem one_only (i : S1.Idx) : i = one := funext fun a => Fin.ext (by
  have h : ∀ a : Fin 1, S1.size a = 1 := by decide
  have h1 := (i a).isLt; have h2 := (one a).isLt; have := h a; omega)

/-- The product of device `c`'s scales. -/
def scaleOf (c : Dev nD) : F .f32 := k0_pay17 (sxOf m c one) (swOf m c one)

theorem read_sx (c : Dev nD) :
    (sxM.access (Rect.unit (s := S1) ![0] S1.size inb_S1_S1_0) : View sig .tc _ _ _).read (Elt F) (sxOf m c) one = sxOf m c one :=
  congrArg (sxOf m c) (one_only _)
theorem read_sw (c : Dev nD) :
    (swM.access (Rect.unit (s := S1) ![0] S1.size inb_S1_S1_0) : View sig .tc _ _ _).read (Elt F) (swOf m c) one = swOf m c one :=
  congrArg (swOf m c) (one_only _)

/-- What device `c` puts in a place for chunk `i`. -/
def chunkPay (c : Dev nD) (i : Fin 4) : S1x1024x2048.Idx → Elt F .f32 :=
  k0_pay19 (scaleOf m c) (xcM.view.readAt (Elt F) (chunkR i).toLoadRect (XG m)) (WG m)
/-- Chunk `i` of device `c`'s result: the same values without the place's leading axis. -/
def chunkOf (c : Dev nD) (i : Fin 4) : S1024x2048.Idx → Elt F .f32 :=
  fun y => chunkPay m c i (Shape.reshapeEquiv squeezes_S1x1024x2048_S1024x2048.numel_eq y)
/-- Device `c`'s result: its four chunks one under the other. -/
def outOf (c : Dev nD) : (main_v1 : Ref sig .tc).ty.Contents (Elt F) := Rect.glue outR outR_cover fun i => chunkOf m c i

theorem read_outOf (c : Dev nD) (i : Fin 4) : (outChunk i).view.read (Elt F) (outOf m c) = chunkOf m c i :=
  funext fun y => Rect.glue_emb outR outR_cover outR_disjoint (fun i => chunkOf m c i) i y

/-- A place just filled for chunk `i` reads as that chunk. -/
theorem read_place (c : Dev nD) (i : Fin 4) (b : Fin 2) (f : (cc0_scratch2 : Ref sig .tc).ty.Contents (Elt F)) :
    (accSlot b).view.read (Elt F) ((accM.access (accR b) : View sig .tc _ _ _).write (Elt F) f (chunkPay m c i) Finset.univ) = chunkOf m c i :=
  funext fun y => congrFun (View.read_write_univ (v := (accM.access (accR b) : View sig .tc _ _ _)) f (chunkPay m c i))
    (Shape.reshapeEquiv squeezes_S1x1024x2048_S1024x2048.numel_eq y)

/-! ## Loads of whole buffers and of what a device copies for itself -/

theorem zero_zero : (![0, 0] : Fin 2 → Nat) = fun _ => 0 := funext fun a => by fin_cases a <;> rfl

theorem pay_x (f : (cc0_stg0_0 : Ref sig .tc).ty.Contents (Elt F)) :
    k0_pay1 (xM.view.readAt (Elt F) (Rect.unit (s := S4096x512) ![0, 0] S4096x512.size inb_S4096x512_S4096x512_0_0).toLoadRect f) = f := by
  rw [show xM.view.readAt (Elt F) (Rect.unit (s := S4096x512) ![0, 0] S4096x512.size inb_S4096x512_S4096x512_0_0).toLoadRect f = f from
    Memref.readAt_unit_zero (Elt F) cc0_stg0_0 zero_zero _ f]
  exact (shapeCast_self _ _).trans (shapeCast_self _ _)
theorem pay_w (f : (cc0_stg1_0 : Ref sig .tc).ty.Contents (Elt F)) :
    k0_pay2 (wM.view.readAt (Elt F) (Rect.unit (s := S512x2048) ![0, 0] S512x2048.size inb_S512x2048_S512x2048_0_0).toLoadRect f) = f := by
  rw [show wM.view.readAt (Elt F) (Rect.unit (s := S512x2048) ![0, 0] S512x2048.size inb_S512x2048_S512x2048_0_0).toLoadRect f = f from
    Memref.readAt_unit_zero (Elt F) cc0_stg1_0 zero_zero _ f]
  exact (shapeCast_self _ _).trans (shapeCast_self _ _)
theorem read_WG_whole :
    wcM.view.readAt (Elt F) (Rect.unit (s := S4096x2048) ![0, 0] S4096x2048.size inb_S4096x2048_S4096x2048_0_0).toLoadRect (WG m) = WG m :=
  Memref.readAt_unit_zero (Elt F) cc0_scratch1 zero_zero _ _

/-- Writing through a view what `g` reads there makes the contents agree with `g` on the view's elements. -/
theorem write_agrees {κ : Kind} {sp : Space} {s : Shape} {e : EltTy} (v : View sig κ sp s e) (f g : v.ty.Contents (Elt F))
    (w : s.Idx → Elt F e) (h : v.read (Elt F) g = w) : ∀ i ∈ v.set, v.write (Elt F) f w Finset.univ i = g i := fun i hi => by
  rw [← h, View.write_read_eq_piecewise]
  exact Finset.piecewise_eq_of_mem _ _ _ hi

end Cert.Gather
end
-- ==== Proof.Schedule.lean ====
/-
  The protocol, written down before any run. Every device has one barrier cell, for each peer a cell each for the
  copies sent and received of either operand, and a cell for each of the two places a chunk is copied from.

    cell of device c        who pays it                       what the payment hands over
    barrier                 every peer p, one unit            p's two places for c's blocks
    x-receive j, w-receive j  peer j's copies                 the place of j's block, holding it
    x-send p, w-send p      c's own copies to p               the share of c's block that was read
    place b, round r        c's own copy of chunk 2 r + b     that chunk of the result, and the place back

  A device waits at its barrier cell for all seven peers before it sends: that is what lets it write into their
  buffers. It then waits for the seven peers' blocks, computes and copies the chunks, and last waits for its own
  copies to have left. Barrier cells are level 1, receive cells level 2, all others level 0: a device that waits at
  its barrier still owes the receive cells of its peers, and nothing else.
-/
module

public import proofs.«01_k».proof.Proof.Contents
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

/-- Ghost state: the launch's own, and the protocol's rounds, whose duties are named by the device that pays. -/
abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- A device's own cells: kind and peer for the exchange (kinds: x sent, x received, w sent, w received), or a place. -/
abbrev Own : Type := (Fin 4 × Fin 8) ⊕ Fin 2
/-- All its cells: the barrier's besides. -/
abbrev Cell : Type := Unit ⊕ Own

def xferSem : Fin 4 → Fin 8 → DmaSem sig
  | 0, p => xSend p
  | 1, p => xRecv p
  | 2, p => wSend p
  | 3, p => wRecv p
def osem : Own → SemLoc sig
  | .inl (k, p) => .dma (xferSem k p)
  | .inr b => .dma (cSem b)
def csem : Cell → SemLoc sig
  | .inl _ => .reg barS
  | .inr k => osem k

theorem csem_injective : Function.Injective csem := by decide

def kcell (x : Dev nD × Cell) : GSem nD τ sig := ((x.1 : Thread nD τ), csem x.2)

theorem kcell_injective : Function.Injective kcell := fun x y h => by
  have h1 : ((x.1 : Dev nD) : Thread nD τ) = (y.1 : Thread nD τ) := congrArg Prod.fst h
  have h2 : csem x.2 = csem y.2 := congrArg Prod.snd h
  exact Prod.ext (congrArg (fun t : Thread nD τ => t.1) h1) (csem_injective h2)

abbrev barC (c : Dev nD) : GSem nD τ sig := ((c : Thread nD τ), .reg barS)
abbrev xs (c : Dev nD) (p : Fin 8) : GSem nD τ sig := ((c : Thread nD τ), .dma (xSend p))
abbrev xr (c : Dev nD) (j : Fin 8) : GSem nD τ sig := ((c : Thread nD τ), .dma (xRecv j))
abbrev ws (c : Dev nD) (p : Fin 8) : GSem nD τ sig := ((c : Thread nD τ), .dma (wSend p))
abbrev wr (c : Dev nD) (j : Fin 8) : GSem nD τ sig := ((c : Thread nD τ), .dma (wRecv j))
abbrev cp (c : Dev nD) (b : Fin 2) : GSem nD τ sig := ((c : Thread nD τ), .dma (cSem b))

/-- The keys of those cells. -/
abbrev kBar : Cell := .inl ()
abbrev kX (k : Fin 4) (p : Fin 8) : Cell := .inr (.inl (k, p))
abbrev kP (b : Fin 2) : Cell := .inr (.inr b)

/-- What device and cell a semaphore is, if it is one of these. -/
def who (g : GSem nD τ sig) : Option (Dev nD × Cell) := Function.partialInv kcell g

theorem who_kcell (x : Dev nD × Cell) : who (kcell x) = some x := Function.partialInv_left kcell_injective x
theorem who_some {g : GSem nD τ sig} {x : Dev nD × Cell} (h : who g = some x) : kcell x = g :=
  (Function.partialInv_of_injective kcell_injective _ _).mp h

/-! ## How much a copy signals -/

def NX : ℕ := xM.view.dmaCredit
def NW : ℕ := wM.view.dmaCredit
def NC : ℕ := (outChunk 0).view.dmaCredit

theorem NX_pos : 0 < NX := View.dmaCredit_pos _ (by decide)
theorem NW_pos : 0 < NW := View.dmaCredit_pos _ (by decide)
theorem NC_pos : 0 < NC := View.dmaCredit_pos _ (by decide)

theorem xSlot_credit (j : Fin 8) : (xSlot j).view.dmaCredit = NX := rfl
theorem wSlot_credit (j : Fin 8) : (wSlot j).view.dmaCredit = NW := rfl
theorem outChunk_credit (i : Fin 4) : (outChunk i).view.dmaCredit = NC := rfl

/-! ## What is handed over -/

variable (m : (ℓ : Loc nD τ sig) → Buf (Elt F) ℓ)

/-- Device `d`'s place for device `j`'s block of the first operand, holding `f`'s there. -/
def xPart (d : Dev nD) (j : Fin 8) (f : (cc0_scratch0 : Ref sig .tc).ty.Contents (Elt F)) : sProp 𝕄 :=
  (xSlot j).view.loc (d : Thread nD τ) ↦[(xSlot j).view.set]{fullShare} f
/-- The same for the second operand. -/
def wPart (d : Dev nD) (j : Fin 8) (f : (cc0_scratch1 : Ref sig .tc).ty.Contents (Elt F)) : sProp 𝕄 :=
  (wSlot j).view.loc (d : Thread nD τ) ↦[(wSlot j).view.set]{fullShare} f
/-- The share of device `c`'s own block that its copy to `p` reads. -/
def xShare (c : Dev nD) (p : Fin 8) : sProp 𝕄 :=
  xM.view.loc (c : Thread nD τ) ↦[xM.view.set]{shareTok fullShare 8 p} xOf m c
def wShare (c : Dev nD) (p : Fin 8) : sProp 𝕄 :=
  wM.view.loc (c : Thread nD τ) ↦[wM.view.set]{shareTok fullShare 8 p} wOf m c
/-- Chunk `i` of device `c`'s result buffer. -/
def outPart (c : Dev nD) (i : Fin 4) (f : (main_v1 : Ref sig .tc).ty.Contents (Elt F)) : sProp 𝕄 :=
  (outChunk i).view.loc (c : Thread nD τ) ↦[(outChunk i).view.set]{fullShare} f
/-- Place `b`. -/
def accPart (c : Dev nD) (b : Fin 2) (f : (cc0_scratch2 : Ref sig .tc).ty.Contents (Elt F)) : sProp 𝕄 :=
  (accSlot b).view.loc (c : Thread nD τ) ↦[(accSlot b).view.set]{fullShare} f

/-- The chunk copied from place `b` in round `r`. -/
def chunkAt : ℕ → Fin 2 → Fin 4
  | 0, 0 => 0
  | 0, 1 => 1
  | _ + 1, 0 => 2
  | _ + 1, 1 => 3

/-- Device `d`'s two places for device `c`'s blocks, whatever they hold. -/
def openFor (d c : Dev nD) : sProp 𝕄 := iprop((∃ f, xPart (F := F) d c f) ∗ ∃ f, wPart (F := F) d c f)
def putPay (c : Dev nD) (r : ℕ) (b : Fin 2) : sProp 𝕄 :=
  iprop(outPart c (chunkAt r b) (outOf m c) ∗ ∃ f, accPart c b f)

def xferPay (c : Dev nD) : Fin 4 → Fin 8 → sProp 𝕄
  | 0, p => xShare m c p
  | 1, j => xPart c j (XG m)
  | 2, p => wShare m c p
  | 3, j => wPart c j (WG m)
def pay (c : Dev nD) (r : ℕ) (d : Dev nD) : Cell → sProp 𝕄
  | .inl _ => openFor d c
  | .inr (.inl (k, p)) => xferPay m c k p
  | .inr (.inr b) => putPay m c r b

/-- Who pays: a device's own copies itself, the rest its peers. -/
def payer (c : Dev nD) : Fin 4 → Fin 8 → Dev nD
  | 0, _ => c
  | 1, j => j
  | 2, _ => c
  | 3, j => j
def dut (c : Dev nD) (r : ℕ) : Cell → Finset (Dev nD)
  | .inl _ => if r = 0 then Finset.univ.erase c else ∅
  | .inr (.inl (k, p)) => if r = 0 ∧ p ≠ c then {payer c k p} else ∅
  | .inr (.inr _) => if r < 2 then {c} else ∅

def xferAmt : Fin 4 → ℕ
  | 0 => NX
  | 1 => NX
  | 2 => NW
  | 3 => NW
def amt : Cell → ℕ
  | .inl _ => 1
  | .inr (.inl (k, _)) => xferAmt k
  | .inr (.inr _) => NC

theorem amt_pos : ∀ k, 0 < amt k
  | .inl _ => Nat.one_pos
  | .inr (.inl (0, _)) => NX_pos
  | .inr (.inl (1, _)) => NX_pos
  | .inr (.inl (2, _)) => NW_pos
  | .inr (.inl (3, _)) => NW_pos
  | .inr (.inr _) => NC_pos

instance xPart_storable (d j f) : BI.Storable (upEmb : UEmb _ 𝕄) (xPart (F := F) d j f) := by unfold xPart; infer_instance
instance wPart_storable (d j f) : BI.Storable (upEmb : UEmb _ 𝕄) (wPart (F := F) d j f) := by unfold wPart; infer_instance
instance xShare_storable (c p) : BI.Storable (upEmb : UEmb _ 𝕄) (xShare m c p) := by unfold xShare; infer_instance
instance wShare_storable (c p) : BI.Storable (upEmb : UEmb _ 𝕄) (wShare m c p) := by unfold wShare; infer_instance
instance outPart_storable (c i f) : BI.Storable (upEmb : UEmb _ 𝕄) (outPart (F := F) c i f) := by unfold outPart; infer_instance
instance accPart_storable (c b f) : BI.Storable (upEmb : UEmb _ 𝕄) (accPart (F := F) c b f) := by unfold accPart; infer_instance

instance pay_storable (c : Dev nD) (r : ℕ) (d : Dev nD) : ∀ k, BI.Storable (upEmb : UEmb _ 𝕄) (pay m c r d k)
  | .inl _ => by unfold pay openFor; infer_instance
  | .inr (.inl (0, _)) => xShare_storable m _ _
  | .inr (.inl (1, _)) => xPart_storable _ _ _
  | .inr (.inl (2, _)) => wShare_storable m _ _
  | .inr (.inl (3, _)) => wPart_storable _ _ _
  | .inr (.inr _) => by unfold pay putPay; infer_instance

/-- The schedule: the table above. -/
def Rd : Rounds.Schedule (GSem nD τ sig) (Dev nD) 𝕄 where
  duties g r := (who g).elim ∅ fun x => dut x.1 r x.2
  unitless _ := False
  amount g _ _ := (who g).elim 1 fun x => amt x.2
  payload g r d := (who g).elim iprop(emp) fun x => pay m x.1 r d x.2
  amount_pos g _ _ _ := by
    cases who g with
    | none => exact Nat.one_pos
    | some x => exact amt_pos x.2

instance Rd_payload_storable (g : GSem nD τ sig) (r : ℕ) (d : Dev nD) :
    BI.Storable (upEmb : UEmb _ 𝕄) ((Rd m).payload g r d) := by
  show BI.Storable upEmb ((who g).elim iprop(emp) fun x => pay m x.1 r d x.2)
  cases who g with
  | none => show BI.Storable upEmb (iprop(emp) : sProp 𝕄); infer_instance
  | some x => exact pay_storable m x.1 r d x.2

/-! ## The schedule read at a cell -/

theorem duties_at (c : Dev nD) (k : Cell) (r : ℕ) : (Rd m).duties (kcell (c, k)) r = dut c r k := by
  show (who (kcell (c, k))).elim ∅ _ = _; rw [who_kcell]; rfl
theorem amount_at (c : Dev nD) (k : Cell) (r : ℕ) (d : Dev nD) : (Rd m).amount (kcell (c, k)) r d = amt k := by
  show (who (kcell (c, k))).elim 1 _ = _; rw [who_kcell]; rfl
theorem payload_at (c : Dev nD) (k : Cell) (r : ℕ) (d : Dev nD) : (Rd m).payload (kcell (c, k)) r d = pay m c r d k := by
  show (who (kcell (c, k))).elim iprop(emp) _ = _; rw [who_kcell]; rfl

theorem amount_xs (c p d : Dev nD) : (Rd m).amount (xs c p) 0 d = NX := amount_at m c (kX 0 p) 0 d
theorem amount_xr (c j d : Dev nD) : (Rd m).amount (xr c j) 0 d = NX := amount_at m c (kX 1 j) 0 d
theorem amount_ws (c p d : Dev nD) : (Rd m).amount (ws c p) 0 d = NW := amount_at m c (kX 2 p) 0 d
theorem amount_wr (c j d : Dev nD) : (Rd m).amount (wr c j) 0 d = NW := amount_at m c (kX 3 j) 0 d
theorem amount_cp (c : Dev nD) (b : Fin 2) (r : ℕ) (d : Dev nD) : (Rd m).amount (cp c b) r d = NC := amount_at m c (kP b) r d
theorem pay_bar (c d : Dev nD) : (Rd m).payload (barC c) 0 d = openFor (F := F) d c := payload_at m c kBar 0 d
theorem pay_xs (c p d : Dev nD) : (Rd m).payload (xs c p) 0 d = xShare m c p := payload_at m c (kX 0 p) 0 d
theorem pay_xr (c j d : Dev nD) : (Rd m).payload (xr c j) 0 d = xPart c j (XG m) := payload_at m c (kX 1 j) 0 d
theorem pay_ws (c p d : Dev nD) : (Rd m).payload (ws c p) 0 d = wShare m c p := payload_at m c (kX 2 p) 0 d
theorem pay_wr (c j d : Dev nD) : (Rd m).payload (wr c j) 0 d = wPart c j (WG m) := payload_at m c (kX 3 j) 0 d
theorem pay_cp (c : Dev nD) (b : Fin 2) (r : ℕ) (d : Dev nD) : (Rd m).payload (cp c b) r d = putPay m c r b := payload_at m c (kP b) r d

/-- No cell has a duty from round 2 on. -/
theorem duties_late (c : Dev nD) (k : Cell) : ∀ r, 2 ≤ r → (Rd m).duties (kcell (c, k)) r = ∅ := fun r hr => by
  rw [duties_at]
  rcases k with _ | ⟨k, p⟩ | b
  · exact if_neg (by omega)
  · exact if_neg (by omega)
  · exact if_neg (by omega)
/-- The barrier's and the exchange's have one round. -/
theorem duties_bar_late (c : Dev nD) : ∀ r, 1 ≤ r → (Rd m).duties (barC c) r = ∅ := fun r hr =>
  (duties_at m c kBar r).trans (if_neg (by omega))
theorem duties_xfer_late (c : Dev nD) (k : Fin 4) (p : Fin 8) : ∀ r, 1 ≤ r → (Rd m).duties (kcell (c, kX k p)) r = ∅ := fun r hr =>
  (duties_at m c (kX k p) r).trans (if_neg (by omega))
/-- A device sends nothing to itself. -/
theorem duties_xfer_self (c : Dev nD) (k : Fin 4) : ∀ r, 0 ≤ r → (Rd m).duties (kcell (c, kX k c)) r = ∅ := fun r _ =>
  (duties_at m c (kX k c) r).trans (if_neg fun h => h.2 rfl)

theorem duties_bar (c : Dev nD) : (Rd m).duties (barC c) 0 = Finset.univ.erase c := (duties_at m c kBar 0).trans rfl
theorem duties_xfer (c : Dev nD) (k : Fin 4) {p : Fin 8} (h : p ≠ c) : (Rd m).duties (kcell (c, kX k p)) 0 = {payer c k p} :=
  (duties_at m c (kX k p) 0).trans (if_pos ⟨rfl, h⟩)
theorem duties_xs (c : Dev nD) {p : Fin 8} (h : p ≠ c) : (Rd m).duties (xs c p) 0 = {c} := duties_xfer m c 0 h
theorem duties_xr (c : Dev nD) {j : Fin 8} (h : j ≠ c) : (Rd m).duties (xr c j) 0 = {j} := duties_xfer m c 1 h
theorem duties_ws (c : Dev nD) {p : Fin 8} (h : p ≠ c) : (Rd m).duties (ws c p) 0 = {c} := duties_xfer m c 2 h
theorem duties_wr (c : Dev nD) {j : Fin 8} (h : j ≠ c) : (Rd m).duties (wr c j) 0 = {j} := duties_xfer m c 3 h
theorem duties_put (c : Dev nD) (b : Fin 2) {r : ℕ} (h : r < 2) : (Rd m).duties (cp c b) r = {c} :=
  (duties_at m c (kP b) r).trans (if_pos h)

theorem expect_bar (c : Dev nD) : (Rd m).expect (barC c) 0 = 7 := by
  unfold Schedule.expect Schedule.amountOf
  rw [duties_bar]
  refine (Finset.sum_congr rfl fun d _ => amount_at m c kBar 0 d).trans ?_
  show ∑ _d ∈ Finset.univ.erase c, 1 = 7
  rw [Finset.sum_const, Finset.card_erase_of_mem (Finset.mem_univ _), Finset.card_univ]; rfl
theorem expect_xfer (c : Dev nD) (k : Fin 4) {p : Fin 8} (h : p ≠ c) : (Rd m).expect (kcell (c, kX k p)) 0 = xferAmt k := by
  unfold Schedule.expect Schedule.amountOf
  rw [duties_xfer m c k h, Finset.sum_singleton, amount_at]; rfl
theorem expect_put (c : Dev nD) (b : Fin 2) {r : ℕ} (h : r < 2) : (Rd m).expect (cp c b) r = NC := by
  unfold Schedule.expect Schedule.amountOf
  rw [duties_put m c b h, Finset.sum_singleton]; exact amount_at m c (kP b) r c

/-- The barrier's payments: every peer's places for `c`. -/
theorem rest_bar (c : Dev nD) : bigSep ((Rd m).duties (barC c) 0 \ ∅) (fun d => (Rd m).payload (barC c) 0 d)
    = bigSep (Finset.univ.erase c) fun d => openFor (F := F) d c := by
  rw [Finset.sdiff_empty, duties_bar]
  exact bigSep_congr fun d _ => payload_at m c kBar 0 d
theorem rest_xfer (c : Dev nD) (k : Fin 4) {p : Fin 8} (h : p ≠ c) :
    bigSep ((Rd m).duties ((c : Thread nD τ), .dma (xferSem k p)) 0 \ ∅) (fun d => (Rd m).payload ((c : Thread nD τ), .dma (xferSem k p)) 0 d) = xferPay m c k p := by
  show bigSep ((Rd m).duties (kcell (c, kX k p)) 0 \ ∅) (fun d => (Rd m).payload (kcell (c, kX k p)) 0 d) = xferPay m c k p
  rw [Finset.sdiff_empty, duties_xfer m c k h, bigSep_singleton, payload_at]; rfl
theorem rest_put (c : Dev nD) (b : Fin 2) {r : ℕ} (h : r < 2) :
    bigSep ((Rd m).duties (cp c b) r \ ∅) (fun d => (Rd m).payload (cp c b) r d) = putPay m c r b := by
  rw [Finset.sdiff_empty, duties_put m c b h, bigSep_singleton]; exact payload_at m c (kP b) r c

/-! ## What a device owes, and the levels -/

/-- What device `c`'s copies to `p` signal there. -/
def recvT (c p : Dev nD) : CellTallies nD τ sig Unit := tallyAt (wr p c) () NW + tallyAt (xr p c) () NX
def recvO (c : Dev nD) (s : Finset (Dev nD)) : CellTallies nD τ sig Unit := ∑ p ∈ s, recvT c p
def barO (s : Finset (Dev nD)) : CellTallies nD τ sig Unit := ∑ p ∈ s, tallyAt (barC p) () 1
/-- At launch: the copies to every peer, and a unit to every peer's barrier. -/
def O₀ (c : Dev nD) : CellTallies nD τ sig Unit := recvO c (Finset.univ.erase c) + barO (Finset.univ.erase c)

def L (g : GSem nD τ sig) : Finset Unit := if g.1.2 = .tc then {()} else ∅
def levelOf : Cell → ℕ
  | .inl _ => 1
  | .inr (.inl (1, _)) => 2
  | .inr (.inl (3, _)) => 2
  | _ => 0
def lv (g : GSem nD τ sig) (_ : Unit) : ℕ := (who g).elim 0 fun x => levelOf x.2

theorem L_of_ne (g : GSem nD τ sig) (h : g.1.2 ≠ .tc) : L g = ∅ := if_neg h
theorem L_tc (c : Dev nD) (sm : SemLoc sig) : L ((c : Thread nD τ), sm) = {()} := if_pos rfl

theorem lv_at (c : Dev nD) (k : Cell) (u : Unit) : lv (kcell (c, k)) u = levelOf k := by
  unfold lv; rw [who_kcell]; rfl
/-- A semaphore that is none of the cells' is at level 0. -/
theorem lv_other (c : Dev nD) (s : SemLoc sig) (h : ∀ k, csem k ≠ s) (u : Unit) : lv ((c : Thread nD τ), s) u = 0 := by
  unfold lv
  cases hw : who ((c : Thread nD τ), s) with
  | none => rfl
  | some x => exact absurd (congrArg Prod.snd (who_some hw)) (h x.2)

theorem pos_of_sum {A : Type} [DecidableEq A] (f : A → CellTallies nD τ sig Unit) (s : Finset A) {g : GSem nD τ sig} {u : Unit}
    (h : 0 < (∑ p ∈ s, f p) g u) : ∃ p ∈ s, 0 < f p g u := by
  induction s using Finset.induction_on with
  | empty => exact absurd h (by simp)
  | insert a s ha ih =>
    rw [Finset.sum_insert ha, Pi.add_apply, Finsupp.add_apply] at h
    by_cases h0 : 0 < f a g u
    · exact ⟨a, Finset.mem_insert_self _ _, h0⟩
    · obtain ⟨p, hp, hp'⟩ := ih (by omega)
      exact ⟨p, Finset.mem_insert_of_mem hp, hp'⟩
theorem pos_of_tally {g g' : GSem nD τ sig} {u u' : Unit} {n : ℕ} (h : 0 < tallyAt g u n g' u') : g' = g := by
  rw [tallyAt_apply] at h
  by_contra hn
  rw [if_neg fun h' => hn h'.1] at h
  exact Nat.lt_irrefl 0 h

/-- A device owes copies to receive cells only, which are at level 2. -/
theorem recvO_pos {c : Dev nD} {s : Finset (Dev nD)} {g : GSem nD τ sig} {u : Unit} (h : 0 < recvO c s g u) :
    u ∈ L g ∧ lv g u = 2 := by
  obtain ⟨p, _, hp⟩ := pos_of_sum _ _ h
  unfold recvT at hp
  rw [Pi.add_apply, Finsupp.add_apply] at hp
  rcases (show 0 < tallyAt (wr p c) () NW g u ∨ 0 < tallyAt (xr p c) () NX g u by omega) with h | h
  · rw [pos_of_tally h]; exact ⟨Finset.mem_singleton_self _, lv_at p (kX 3 c) u⟩
  · rw [pos_of_tally h]; exact ⟨Finset.mem_singleton_self _, lv_at p (kX 1 c) u⟩
theorem barO_pos {s : Finset (Dev nD)} {g : GSem nD τ sig} {u : Unit} (h : 0 < barO s g u) :
    u ∈ L g ∧ lv g u = 1 := by
  obtain ⟨p, _, hp⟩ := pos_of_sum _ _ h
  rw [pos_of_tally hp]; exact ⟨Finset.mem_singleton_self _, lv_at p kBar u⟩
theorem O₀_pos {c : Dev nD} {g : GSem nD τ sig} {u : Unit} (h : 0 < O₀ c g u) : u ∈ L g ∧ 0 < lv g u := by
  unfold O₀ at h
  rw [Pi.add_apply, Finsupp.add_apply] at h
  rcases (show 0 < recvO c (Finset.univ.erase c) g u ∨ 0 < barO (Finset.univ.erase c) g u by omega) with h | h
  · have := recvO_pos h; exact ⟨this.1, by omega⟩
  · have := barO_pos h; exact ⟨this.1, by omega⟩

/-- A device may wait at a staging semaphore whatever it owes. -/
theorem mayWait_stage (c : Dev nD) (q : DmaSem sig) (hq : ∀ k, csem k ≠ .dma q) (O : CellTallies nD τ sig Unit) (hO : O = O₀ c ∨ O = 0) :
    (levAts L lv : sProp 𝕄) ⊢ MayWait (c : Thread nD τ) (.dma q) () O := by
  rcases hO with rfl | rfl
  · exact MayOwe.of_cut (L := L) (lev := lv) 0 (fun p hp => by rw [Finset.mem_singleton.mp hp, L_tc]; exact Finset.mem_singleton_self _)
      (fun g u hg => (O₀_pos hg).1)
      (fun p hp => by rw [Finset.mem_singleton.mp hp]; exact (lv_other c _ hq _).le)
      (fun g u hg => (O₀_pos hg).2)
  · rw [MayWait_zero]; iintro -; iempintro

/-- At its barrier it owes its copies only. -/
theorem mayWait_bar (c : Dev nD) (s : Finset (Dev nD)) :
    (levAts L lv : sProp 𝕄) ⊢ MayWait (c : Thread nD τ) (.reg barS) () (recvO c s) :=
  MayOwe.of_cut (L := L) (lev := lv) 1 (fun p hp => by rw [Finset.mem_singleton.mp hp, L_tc]; exact Finset.mem_singleton_self _)
    (fun g u hg => (recvO_pos hg).1)
    (fun p hp => by rw [Finset.mem_singleton.mp hp]; exact (lv_at c kBar ()).le)
    (fun g u hg => by rw [(recvO_pos hg).2]; decide)

end Cert.Gather
end
-- ==== Proof.Steps.lean ====
/-
  What each step of the body does to what a device holds, and the rule by which a loop over its peers is one step
  per peer.
-/
module

public import proofs.«01_k».proof.Proof.Schedule

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of a program on device `c`. -/
abbrev run {A : Type} (c : Dev nD) (p : Run F A) (Q : A → sProp 𝕄) : sProp 𝕄 :=
  wp frame (wpE (defs₀ (F := F)) 𝒱₀ (c : Thread nD τ) none) Set.univ p Q

theorem run_bind {A B : Type} (c : Dev nD) (p : Run F A) (k : A → Run F B) (Q : B → sProp 𝕄) :
    run c (p.bind k) Q = run c p fun a => run c (k a) Q := wp_bind _ _ _ _ _ _

theorem bigSep_cons {A : Type} [DecidableEq A] {a : A} {s : Finset A} (h : a ∉ s) {Φ : A → sProp 𝕄} :
    bigSep (insert a s) Φ = iprop(Φ a ∗ bigSep s Φ) := bigSep_insert h
theorem bigSep_one {A : Type} [DecidableEq A] {a : A} {s : Finset A} (h : a ∈ s) {Φ : A → sProp 𝕄} :
    (bigSep s Φ : sProp 𝕄) ⊢ Φ a := bigSep_elim h

/-- A loop over a list without repetitions: `P` is there throughout, an entry consumes its `R` and produces its `S`, and
    `J` depends on the entries still to come. -/
theorem run_each {A : Type} [DecidableEq A] (c : Dev nD) (P : sProp 𝕄) [BI.Persistent P] (R S : A → sProp 𝕄) (J : Finset A → sProp 𝕄)
    (body : A → Run F PUnit) (good : A → Prop)
    (step : ∀ a s (Q : PUnit → sProp 𝕄), good a → a ∉ s →
      iprop(P ∗ R a ∗ J (insert a s) ∗ ((S a ∗ J s) -∗ Q ⟨⟩)) ⊢ run c (body a) Q) :
    ∀ (l : List A), l.Nodup → (∀ a ∈ l, good a) → ∀ Q : PUnit → sProp 𝕄,
      iprop(P ∗ bigSep l.toFinset R ∗ J l.toFinset ∗ ((bigSep l.toFinset S ∗ J ∅) -∗ Q ⟨⟩)) ⊢ run c (each l body) Q := by
  intro l
  induction l with
  | nil =>
    intro _ _ Q
    show _ ⊢ run c (Prog.ret ⟨⟩) Q
    rw [List.toFinset_nil, bigSep_empty, bigSep_empty]
    unfold run
    rw [wp_ret]
    iintro ⟨-, -, HJ, Hk⟩
    imodintro
    iapply Hk
    isplitr; · iempintro
    iexact HJ
  | cons a l ih =>
    intro hnd hg Q
    have ha : a ∉ l.toFinset := by rw [List.mem_toFinset]; exact (List.nodup_cons.mp hnd).1
    show _ ⊢ run c ((body a).bind fun _ => each l body) Q
    rw [run_bind, List.toFinset_cons, bigSep_cons ha, bigSep_cons ha]
    iintro ⟨#HP, ⟨HR, HRs⟩, HJ, Hk⟩
    iapply (step a l.toFinset (fun _ => run c (each l body) Q) (hg a List.mem_cons_self) ha)
    isplitr; · iexact HP
    isplitl [HR]; · iexact HR
    isplitl [HJ]; · iexact HJ
    iintro ⟨HS, HJ⟩
    iapply (ih (List.nodup_cons.mp hnd).2 (fun b hb => hg b (List.mem_cons_of_mem _ hb)) Q)
    isplitr; · iexact HP
    isplitl [HRs]; · iexact HRs
    isplitl [HJ]; · iexact HJ
    iintro ⟨HSs, HJ⟩
    iapply Hk
    isplitl [HS HSs]
    · isplitl [HS] <;> iassumption
    iexact HJ

/-! ## What every device knows -/

variable (K : Dev nD × Cell → ℕ)

/-- Every cell is under the schedule, at some name, and has reached its first round. -/
def records : sProp 𝕄 :=
  iprop((bigSep Finset.univ fun x : Dev nD × Cell => cellInv ER (Rd m) (K x) (kcell x))
    ∗ bigSep Finset.univ fun x : Dev nD × Cell => reached ER (kcell x) 0)

instance records_persistent : BI.Persistent (records m K) := by unfold records; infer_instance

theorem inv_at (x : Dev nD × Cell) : records m K ⊢ cellInv ER (Rd m) (K x) (kcell x) := by
  unfold records
  iintro ⟨H, -⟩
  iapply (bigSep_one (Φ := fun x : Dev nD × Cell => (cellInv ER (Rd m) (K x) (kcell x) : sProp 𝕄)) (Finset.mem_univ x)); iexact H
theorem reached_at (x : Dev nD × Cell) : records m K ⊢ reached ER (kcell x) 0 := by
  unfold records
  iintro ⟨-, H⟩
  iapply (bigSep_one (Φ := fun x : Dev nD × Cell => (reached ER (kcell x) 0 : sProp 𝕄)) (Finset.mem_univ x)); iexact H

theorem inv_bar (c : Dev nD) : records m K ⊢ cellInv ER (Rd m) (K (c, kBar)) (barC c) := inv_at m K (c, kBar)
theorem inv_xs (c p : Dev nD) : records m K ⊢ cellInv ER (Rd m) (K (c, kX 0 p)) (xs c p) := inv_at m K (c, kX 0 p)
theorem inv_xr (c p : Dev nD) : records m K ⊢ cellInv ER (Rd m) (K (c, kX 1 p)) (xr c p) := inv_at m K (c, kX 1 p)
theorem inv_ws (c p : Dev nD) : records m K ⊢ cellInv ER (Rd m) (K (c, kX 2 p)) (ws c p) := inv_at m K (c, kX 2 p)
theorem inv_wr (c p : Dev nD) : records m K ⊢ cellInv ER (Rd m) (K (c, kX 3 p)) (wr c p) := inv_at m K (c, kX 3 p)
theorem inv_cp (c : Dev nD) (b : Fin 2) : records m K ⊢ cellInv ER (Rd m) (K (c, kP b)) (cp c b) := inv_at m K (c, kP b)
theorem reached_bar (c : Dev nD) : records m K ⊢ reached ER (barC c) 0 := reached_at m K (c, kBar)
theorem reached_xs (c p : Dev nD) : records m K ⊢ reached ER (xs c p) 0 := reached_at m K (c, kX 0 p)
theorem reached_xr (c p : Dev nD) : records m K ⊢ reached ER (xr c p) 0 := reached_at m K (c, kX 1 p)
theorem reached_ws (c p : Dev nD) : records m K ⊢ reached ER (ws c p) 0 := reached_at m K (c, kX 2 p)
theorem reached_wr (c p : Dev nD) : records m K ⊢ reached ER (wr c p) 0 := reached_at m K (c, kX 3 p)
theorem reached_cp (c : Dev nD) (b : Fin 2) : records m K ⊢ reached ER (cp c b) 0 := reached_at m K (c, kP b)

/-! ## Signals and the barrier -/

/-- Device `c` owes `O`. -/
def owing (c : Dev nD) (O : CellTallies nD τ sig Unit) : sProp 𝕄 := iprop(∃ W, owes (c : Thread nD τ) O W)

/-- What device `c` needs to signal `p`: its duty there, and its places for `p`'s blocks. -/
def signalR (c p : Dev nD) : sProp 𝕄 := iprop(dutyTok ER (barC p) 0 c ∗ openFor (F := F) c p)

theorem run_signal (c p : Dev nD) (hp : c ≠ p) (O : CellTallies nD τ sig Unit) (Q : PUnit → sProp 𝕄) :
    iprop(records m K ∗ signalR (F := F) c p ∗ owing c (O + tallyAt (barC p) () 1) ∗ (owing c O -∗ Q ⟨⟩)) ⊢ run c (signalStep p) Q := by
  unfold signalStep owing signalR run
  simp only [semSignalWord]
  iintro ⟨#HR, ⟨Ht, Hopen⟩, ⟨%W, HO⟩, Hk⟩
  iapply (Rounds.wp_signal 𝒱₀ ER (Rd m) (c : Thread nD τ) none (dst := (p : Thread nD τ)) (κ := K (p, kBar)) (r := 0)
      (d := c) (by rw [duties_bar]; exact Finset.mem_erase.mpr ⟨hp, Finset.mem_univ _⟩)
      ((amount_at m p kBar 0 c).trans (by decide)) () O rfl) $$ [HO Ht Hopen]
  · isplitr; · iapply (inv_bar m K p); iexact HR
    isplitl [HO]; · iexact HO
    isplitl [Ht]; · iexact Ht
    isplitl [Hopen]
    · iapply (Entails.of_eq (pay_bar m p c).symm); iexact Hopen
    iapply (reached_bar m K p); iexact HR
  iintro HO
  rw [wp_ret]; imodintro
  iapply Hk
  iexists W; iexact HO

/-- The barrier: every peer's places for `c`'s blocks come with it. -/
theorem run_barrier (c : Dev nD) (s : Finset (Dev nD)) (Q : PUnit → sProp 𝕄) :
    iprop(records m K ∗ levAts L lv ∗ cred (tallyAt (barC c) () 7) ∗ atPos ER (barC c) 0 ∅ 0 ∗ owing c (recvO c s)
        ∗ ((owing c (recvO c s) ∗ atPos ER (barC c) (0 + 1) ∅ 0 ∗ bigSep (Finset.univ.erase c) fun d => openFor (F := F) d c) -∗ Q ⟨⟩))
      ⊢ run c (semWaitWord barS 7#32) Q := by
  unfold owing run
  simp only [semWaitWord]
  iintro ⟨#HR, #Hlev, Hc, Hat, ⟨%W, HO⟩, Hk⟩
  iapply (Rounds.wp_wait_rest_token 𝒱₀ ER (Rd m) (c : Thread nD τ) none (κ := K (c, kBar))
      (wpE_semWait_eq 𝒱₀ (c : Thread nD τ) none Set.univ) (Set.mem_univ _) () (O := recvO c s) (W := W) (R := 0) (m := 0) (T := ∅)
      (by rw [expect_bar]; decide)) $$ [Hc HO Hat]
  · isplitr; · iapply (inv_bar m K c); iexact HR
    isplitl [Hc]; · iexact Hc
    isplitl [HO]; · iexact HO
    isplitr; · iapply (mayWait_bar c s); iexact Hlev
    iexact Hat
  iintro ⟨HO, Hat, -, Hpay⟩
  ihave Hp := (Entails.of_eq (rest_bar m c)) $$ Hpay
  rw [wp_ret]; imodintro
  iapply Hk
  isplitl [HO]; · iexists _; iexact HO
  isplitl [Hat]; · iexact Hat
  iexact Hp

/-! ## Sending -/

/-- What a send to `p` needs: `p`'s places for `c`'s blocks, the duties on both sides, the shares that are read. -/
def sendR (c p : Dev nD) : sProp 𝕄 :=
  iprop(openFor (F := F) p c
    ∗ (dutyTok ER (xs c p) 0 c ∗ dutyTok ER (xr p c) 0 c ∗ dutyTok ER (ws c p) 0 c ∗ dutyTok ER (wr p c) 0 c)
    ∗ xShare m c p ∗ wShare m c p)
/-- What it leaves: the right to wait for it to have left. -/
def sentCred (c p : Dev nD) : sProp 𝕄 := iprop(cred (tallyAt (xs c p) () NX) ∗ cred (tallyAt (ws c p) () NW))

theorem landed_x (p c : Dev nD) (f : (cc0_scratch0 : Ref sig .tc).ty.Contents (Elt F)) :
    ((xSlot c).view.loc (p : Thread nD τ) ↦[(xSlot c).view.set]{fullShare} ((xSlot c).view.write (Elt F) f (xM.view.read (Elt F) (xOf m c)) Finset.univ) : sProp 𝕄)
      ⊢ (Rd m).payload (xr p c) 0 c := by
  rw [pay_xr]; unfold xPart
  exact Entails.of_eq (pointsTo_congr (write_agrees _ _ _ _ (read_XG m c)))
theorem landed_w (p c : Dev nD) (f : (cc0_scratch1 : Ref sig .tc).ty.Contents (Elt F)) :
    ((wSlot c).view.loc (p : Thread nD τ) ↦[(wSlot c).view.set]{fullShare} ((wSlot c).view.write (Elt F) f (wM.view.read (Elt F) (wOf m c)) Finset.univ) : sProp 𝕄)
      ⊢ (Rd m).payload (wr p c) 0 c := by
  rw [pay_wr]; unfold wPart
  exact Entails.of_eq (pointsTo_congr (write_agrees _ _ _ _ (read_WG m c)))

/-- One of a send's two copies. -/
theorem send_x (c p : Dev nD) (hp : p ≠ c) (f : (cc0_scratch0 : Ref sig .tc).ty.Contents (Elt F)) (O : CellTallies nD τ sig Unit) (W : Waits sig Unit)
    {hsc : (xSlot c).view.ref.isScScratch = false} {hsrc : xM.view.WordExact} {hdst : (xSlot c).view.WordExact}
    {hsem : DmaTarget.Typed .vmem (.dma (xRecv c)) (.remote (Dev.tc p : Thread nD τ) (xSlot c) (.dma (xSend p)) hsc)}
    (k : PUnit → Run F PUnit) (Q : PUnit → sProp 𝕄) :
    iprop((cellInv ER (Rd m) (K (c, kX 0 p)) (xs c p) ∗ cellInv ER (Rd m) (K (p, kX 1 c)) (xr p c)
        ∗ xShare m c p ∗ xPart p c f ∗ owes (c : Thread nD τ) (O + tallyAt (xr p c) () NX) W
        ∗ dutyTok ER (xs c p) 0 c ∗ reached ER (xs c p) 0 ∗ dutyTok ER (xr p c) 0 c ∗ reached ER (xr p c) 0))
      ⊢ iprop(((cred (tallyAt (xs c p) () NX) ∗ owes (c : Thread nD τ) O W) -∗ run c (k ⟨⟩) Q)
          -∗ run c (.op (.enqueueDma xM (.remote (Dev.tc p : Thread nD τ) (xSlot c) (.dma (xSend p)) hsc) (.dma (xRecv c)) hsrc hdst hsem) k) Q) := by
  unfold xShare xPart
  exact Rounds.wp_send_pointsTo 𝒱₀ ER (Rd m) (c : Thread nD τ) none (κ₁ := K (c, kX 0 p)) (κ₂ := K (p, kX 1 c))
    (r₁ := 0) (r₂ := 0) (d₁ := c) (d₂ := c) (fd := f)
    (c' := (p : Thread nD τ)) (src := xM) (dst := xSlot c) (sS := .dma (xSend p)) (sem := .dma (xRecv c)) (fs := xOf m c)
    (by rw [duties_xs m c hp]; exact Finset.mem_singleton_self _)
    (by rw [duties_xr m p hp.symm]; exact Finset.mem_singleton_self _)
    () () NX (xSlot_credit c) (amount_xs m c p c) (amount_xr m p c c) O rfl (W := W)
    (Entails.of_eq (by rw [pay_xs]; rfl)) (landed_x m p c f)

/-- One of a send's two copies. -/
theorem send_w (c p : Dev nD) (hp : p ≠ c) (f : (cc0_scratch1 : Ref sig .tc).ty.Contents (Elt F)) (O : CellTallies nD τ sig Unit) (W : Waits sig Unit)
    {hsc : (wSlot c).view.ref.isScScratch = false} {hsrc : wM.view.WordExact} {hdst : (wSlot c).view.WordExact}
    {hsem : DmaTarget.Typed .vmem (.dma (wRecv c)) (.remote (Dev.tc p : Thread nD τ) (wSlot c) (.dma (wSend p)) hsc)}
    (k : PUnit → Run F PUnit) (Q : PUnit → sProp 𝕄) :
    iprop((cellInv ER (Rd m) (K (c, kX 2 p)) (ws c p) ∗ cellInv ER (Rd m) (K (p, kX 3 c)) (wr p c)
        ∗ wShare m c p ∗ wPart p c f ∗ owes (c : Thread nD τ) (O + tallyAt (wr p c) () NW) W
        ∗ dutyTok ER (ws c p) 0 c ∗ reached ER (ws c p) 0 ∗ dutyTok ER (wr p c) 0 c ∗ reached ER (wr p c) 0))
      ⊢ iprop(((cred (tallyAt (ws c p) () NW) ∗ owes (c : Thread nD τ) O W) -∗ run c (k ⟨⟩) Q)
          -∗ run c (.op (.enqueueDma wM (.remote (Dev.tc p : Thread nD τ) (wSlot c) (.dma (wSend p)) hsc) (.dma (wRecv c)) hsrc hdst hsem) k) Q) := by
  unfold wShare wPart
  exact Rounds.wp_send_pointsTo 𝒱₀ ER (Rd m) (c : Thread nD τ) none (κ₁ := K (c, kX 2 p)) (κ₂ := K (p, kX 3 c))
    (r₁ := 0) (r₂ := 0) (d₁ := c) (d₂ := c) (fd := f)
    (c' := (p : Thread nD τ)) (src := wM) (dst := wSlot c) (sS := .dma (wSend p)) (sem := .dma (wRecv c)) (fs := wOf m c)
    (by rw [duties_ws m c hp]; exact Finset.mem_singleton_self _)
    (by rw [duties_wr m p hp.symm]; exact Finset.mem_singleton_self _)
    () () NW (wSlot_credit c) (amount_ws m c p c) (amount_wr m p c c) O rfl (W := W)
    (Entails.of_eq (by rw [pay_ws]; rfl)) (landed_w m p c f)

theorem run_send (c p : Dev nD) (hp : p ≠ c) (O : CellTallies nD τ sig Unit) (Q : PUnit → sProp 𝕄) :
    iprop(records m K ∗ sendR m c p ∗ owing c (O + recvT c p) ∗ ((sentCred (F := F) c p ∗ owing c O) -∗ Q ⟨⟩)) ⊢ run c (sendStep c p) Q := by
  unfold sendStep owing sendR sentCred openFor recvT
  rw [← add_assoc]
  iintro ⟨#HR, ⟨⟨⟨%fx, Hx⟩, %fw, Hw⟩, ⟨Htxs, Htxr, Htws, Htwr⟩, HSx, HSw⟩, ⟨%W, HO⟩, Hk⟩
  iapply (send_x m K c p hp fx (O + tallyAt (wr p c) () NW) W) $$ [HSx Hx HO Htxs Htxr]
  · isplitr; · iapply (inv_xs m K c p); iexact HR
    isplitr; · iapply (inv_xr m K p c); iexact HR
    isplitl [HSx]; · iexact HSx
    isplitl [Hx]; · iexact Hx
    isplitl [HO]; · iexact HO
    isplitl [Htxs]; · iexact Htxs
    isplitr; · iapply (reached_xs m K c p); iexact HR
    isplitl [Htxr]; · iexact Htxr
    iapply (reached_xr m K p c); iexact HR
  iintro ⟨HcX, HO⟩
  iapply (send_w m K c p hp fw O W) $$ [HSw Hw HO Htws Htwr]
  · isplitr; · iapply (inv_ws m K c p); iexact HR
    isplitr; · iapply (inv_wr m K p c); iexact HR
    isplitl [HSw]; · iexact HSw
    isplitl [Hw]; · iexact Hw
    isplitl [HO]; · iexact HO
    isplitl [Htws]; · iexact Htws
    isplitr; · iapply (reached_ws m K c p); iexact HR
    isplitl [Htwr]; · iexact Htwr
    iapply (reached_wr m K p c); iexact HR
  iintro ⟨HcW, HO⟩
  unfold run
  rw [wp_ret]; imodintro
  iapply Hk
  isplitl [HcX HcW]
  · isplitl [HcX] <;> iassumption
  iexists W; iexact HO

/-! ## Waiting for an exchanged block -/

/-- A wait at one of the exchange's cells for its one round: what was promised comes with it. -/
theorem run_xfer_wait (c p : Dev nD) (k : Fin 4) (hp : p ≠ c) {n : ℕ} (hn : n = xferAmt k) {P : sProp 𝕄} (hP : xferPay m c k p = P)
    {sp sp' : Space} {s s' : Shape} {e e' : EltTy} {src : Memref sig .tc sp s e} {dst : Memref sig .tc sp' s' e'}
    {hs : src.view.WordExact} {hd : dst.view.WordExact} (hc : dst.view.dmaCredit = n) {A : Type} (k' : PUnit → Run F A) (Q : A → sProp 𝕄) :
    iprop(records m K ∗ cred (tallyAt (kcell (c, kX k p)) () n) ∗ atPos ER (kcell (c, kX k p)) 0 ∅ 0 ∗ owing c 0
        ∗ ((owing c 0 ∗ atPos ER (kcell (c, kX k p)) (0 + 1) ∅ 0 ∗ P) -∗ run c (k' ⟨⟩) Q))
      ⊢ run c (.op (.waitDma2 (xferSem k p) src dst hs hd) k') Q := by
  subst hc
  unfold owing run
  iintro ⟨#HR, Hc, Hat, ⟨%W, HO⟩, Hk⟩
  iapply (Rounds.wp_wait_rest_token 𝒱₀ ER (Rd m) (c : Thread nD τ) none (sm := .dma (xferSem k p)) (κ := K (c, kX k p))
      (wpE_waitDma2_eq 𝒱₀ (c : Thread nD τ) none Set.univ) (Set.mem_univ _) () (O := 0) (W := W) (R := 0) (m := 0) (T := ∅)
      (by rw [Nat.zero_add]; exact hn.trans (expect_xfer m c k hp).symm)) $$ [Hc HO Hat]
  · isplitr; · iapply (inv_at m K (c, kX k p)); iexact HR
    isplitl [Hc]; · iexact Hc
    isplitl [HO]; · iexact HO
    isplitr; · rw [MayWait_zero]; iempintro
    iexact Hat
  iintro ⟨HO, Hat, -, Hpay⟩
  ihave Hp := (Entails.of_eq ((rest_xfer m c k hp).trans hP)) $$ Hpay
  iapply Hk
  isplitl [HO]; · iexists _; iexact HO
  isplitl [Hat]; · iexact Hat
  iexact Hp

/-- The receive cells of one peer: before the wait, and after. -/
def recvR (c j : Dev nD) : sProp 𝕄 :=
  iprop((cred (tallyAt (xr c j) () NX) ∗ cred (tallyAt (wr c j) () NW)) ∗ atPos ER (xr c j) 0 ∅ 0 ∗ atPos ER (wr c j) 0 ∅ 0)
def recvS (c j : Dev nD) : sProp 𝕄 :=
  iprop((xPart c j (XG m) ∗ wPart c j (WG m)) ∗ atPos ER (xr c j) (0 + 1) ∅ 0 ∗ atPos ER (wr c j) (0 + 1) ∅ 0)

theorem run_recv (c j : Dev nD) (hj : j ≠ c) (Q : PUnit → sProp 𝕄) :
    iprop(records m K ∗ recvR (F := F) c j ∗ owing c 0 ∗ ((recvS m c j ∗ owing c 0) -∗ Q ⟨⟩)) ⊢ run c (recvStep j) Q := by
  unfold recvStep recvR recvS
  iintro ⟨#HR, ⟨⟨Hcx, Hcw⟩, Hax, Haw⟩, HO, Hk⟩
  iapply (run_xfer_wait m K c j 1 hj rfl (show xferPay m c 1 j = xPart c j (XG m) from rfl) (xSlot_credit j))
  isplitr; · iexact HR
  isplitl [Hcx]; · iexact Hcx
  isplitl [Hax]; · iexact Hax
  isplitl [HO]; · iexact HO
  iintro ⟨HO, Hax, Hpx⟩
  iapply (run_xfer_wait m K c j 3 hj rfl (show xferPay m c 3 j = wPart c j (WG m) from rfl) (wSlot_credit j))
  isplitr; · iexact HR
  isplitl [Hcw]; · iexact Hcw
  isplitl [Haw]; · iexact Haw
  isplitl [HO]; · iexact HO
  iintro ⟨HO, Haw, Hpw⟩
  unfold run
  rw [wp_ret]; imodintro
  iapply Hk
  isplitr [HO]
  · isplitl [Hpx Hpw]
    · isplitl [Hpx]; · iexact Hpx
      iexact Hpw
    isplitl [Hax]; · iexact Hax
    iexact Haw
  iexact HO

/-- The send cells of one peer: before the wait, and after. -/
def sentR (c p : Dev nD) : sProp 𝕄 := iprop(sentCred (F := F) c p ∗ atPos ER (xs c p) 0 ∅ 0 ∗ atPos ER (ws c p) 0 ∅ 0)
def sentS (c p : Dev nD) : sProp 𝕄 :=
  iprop((xShare m c p ∗ wShare m c p) ∗ atPos ER (xs c p) (0 + 1) ∅ 0 ∗ atPos ER (ws c p) (0 + 1) ∅ 0)

theorem run_sent (c p : Dev nD) (hp : p ≠ c) (Q : PUnit → sProp 𝕄) :
    iprop(records m K ∗ sentR (F := F) c p ∗ owing c 0 ∗ ((sentS m c p ∗ owing c 0) -∗ Q ⟨⟩)) ⊢ run c (sentStep c p) Q := by
  unfold sentStep sentR sentS sentCred
  iintro ⟨#HR, ⟨⟨Hcx, Hcw⟩, Hax, Haw⟩, HO, Hk⟩
  iapply (run_xfer_wait m K c p 0 hp rfl (show xferPay m c 0 p = xShare m c p from rfl) (show xM.view.dmaCredit = NX from rfl))
  isplitr; · iexact HR
  isplitl [Hcx]; · iexact Hcx
  isplitl [Hax]; · iexact Hax
  isplitl [HO]; · iexact HO
  iintro ⟨HO, Hax, Hpx⟩
  iapply (run_xfer_wait m K c p 2 hp rfl (show xferPay m c 2 p = wShare m c p from rfl) (show wM.view.dmaCredit = NW from rfl))
  isplitr; · iexact HR
  isplitl [Hcw]; · iexact Hcw
  isplitl [Haw]; · iexact Haw
  isplitl [HO]; · iexact HO
  iintro ⟨HO, Haw, Hpw⟩
  unfold run
  rw [wp_ret]; imodintro
  iapply Hk
  isplitr [HO]
  · isplitl [Hpx Hpw]
    · isplitl [Hpx]; · iexact Hpx
      iexact Hpw
    isplitl [Hax]; · iexact Hax
    iexact Haw
  iexact HO

/-! ## The device's own blocks -/

/-- What is left of the device's own blocks while its copies read the rest. -/
def xKeep (c : Dev nD) : sProp 𝕄 := xM.view.loc (c : Thread nD τ) ↦[xM.view.set]{shareDrop fullShare 8} xOf m c
def wKeep (c : Dev nD) : sProp 𝕄 := wM.view.loc (c : Thread nD τ) ↦[wM.view.set]{shareDrop fullShare 8} wOf m c

theorem run_place (c : Dev nD) (Q : PUnit → sProp 𝕄) :
    iprop(openFor (F := F) c c ∗ xKeep m c ∗ wKeep m c ∗ ((xPart c c (XG m) ∗ wPart c c (WG m) ∗ xKeep m c ∗ wKeep m c) -∗ Q ⟨⟩))
      ⊢ run c (placeStep c) Q := by
  unfold placeStep openFor xPart wPart xKeep wKeep run
  iintro ⟨⟨⟨%fx, Hx⟩, %fw, Hw⟩, Hsx, Hsw, Hk⟩
  iapply (wp_load 𝒱₀ (c : Thread nD τ) none Set.univ (m := xM) (by rw [xM_set]; exact Finset.subset_univ _)) $$ Hsx; iintro Hsx
  rw [pay_x]
  iapply (wp_load 𝒱₀ (c : Thread nD τ) none Set.univ (m := xcM) (by rw [xSlot_set]; exact (Finset.map_refl).subset)) $$ Hx; iintro Hx
  iapply (wp_store 𝒱₀ (c : Thread nD τ) none Set.univ (m := xcM) (r := xR c) (Mk := Finset.univ) (S := (xSlot c).view.set) subset_rfl) $$ Hx; iintro Hx
  ihave Hx := (Entails.of_eq (pointsTo_congr (write_agrees _ _ _ _ (read_XG m c)))) $$ Hx
  iapply (wp_load 𝒱₀ (c : Thread nD τ) none Set.univ (m := wM) (by rw [wM_set]; exact Finset.subset_univ _)) $$ Hsw; iintro Hsw
  rw [pay_w]
  iapply (wp_load 𝒱₀ (c : Thread nD τ) none Set.univ (m := wcM) (by rw [wSlot_set]; exact (Finset.map_refl).subset)) $$ Hw; iintro Hw
  iapply (wp_store 𝒱₀ (c : Thread nD τ) none Set.univ (m := wcM) (r := wR c) (Mk := Finset.univ) (S := (wSlot c).view.set) subset_rfl) $$ Hw; iintro Hw
  ihave Hw := (Entails.of_eq (pointsTo_congr (write_agrees _ _ _ _ (read_WG m c)))) $$ Hw
  rw [wp_ret]; imodintro
  iapply Hk
  isplitl [Hx]; · iexact Hx
  isplitl [Hw]; · iexact Hw
  isplitl [Hsx]; · iexact Hsx
  iexact Hsw

end Cert.Gather
end
-- ==== Proof.Chunks.lean ====
/-
  The four chunks of a device's result: each is computed in one of the two places from the gathered operands and
  copied to its rows of the result; a place is used again when its copy has been waited for.
-/
module

public import proofs.«01_k».proof.Proof.Steps

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ)

/-- Both operands gathered on device `c`. -/
def gathered (c : Dev nD) : sProp 𝕄 :=
  iprop((xcM.view.loc (c : Thread nD τ) ↦[Finset.univ]{fullShare} XG m) ∗ (wcM.view.loc (c : Thread nD τ) ↦[Finset.univ]{fullShare} WG m))
/-- A place, whatever it holds. -/
def accAny (c : Dev nD) (b : Fin 2) : sProp 𝕄 := iprop(∃ f, accPart (F := F) c b f)
/-- Rows of the result, whatever they hold. -/
def outAny (c : Dev nD) (i : Fin 4) : sProp 𝕄 := iprop(∃ f, outPart (F := F) c i f)
/-- Place `b` filled with chunk `i`. -/
def filled (c : Dev nD) (i : Fin 4) (b : Fin 2) : sProp 𝕄 :=
  iprop(∃ f : (cc0_scratch2 : Ref sig .tc).ty.Contents (Elt F),
    accPart c b ((accM.access (accR b) : View sig .tc _ _ _).write (Elt F) f (chunkPay m c i) Finset.univ))

theorem run_prod (c : Dev nD) (i : Fin 4) (b : Fin 2) (Q : PUnit → sProp 𝕄) :
    iprop(gathered m c ∗ accAny (F := F) c b ∗ ((gathered m c ∗ filled m c i b) -∗ Q ⟨⟩)) ⊢ run c (prodStep i b (scaleOf m c)) Q := by
  unfold prodStep gathered accAny filled accPart run
  iintro ⟨⟨Hx, Hw⟩, ⟨%f, Ha⟩, Hk⟩
  iapply (wp_load 𝒱₀ (c : Thread nD τ) none Set.univ (m := xcM) (Finset.subset_univ _)) $$ Hx; iintro Hx
  iapply (wp_load 𝒱₀ (c : Thread nD τ) none Set.univ (m := wcM) (Finset.subset_univ _)) $$ Hw; iintro Hw
  rw [read_WG_whole]
  iapply (wp_load 𝒱₀ (c : Thread nD τ) none Set.univ (m := accM) (S := (accSlot b).view.set) (by rw [accSlot_set]; exact (Finset.map_refl).subset)) $$ Ha
  iintro Ha
  iapply (wp_store 𝒱₀ (c : Thread nD τ) none Set.univ (m := accM) (r := accR b) (Mk := Finset.univ) (S := (accSlot b).view.set)
    (by rw [accSlot_set]; exact (View.set_slice_whole _ _).subset)) $$ Ha
  iintro Ha
  rw [wp_ret]; imodintro
  iapply Hk
  isplitl [Hx Hw]
  · isplitl [Hx]; · iexact Hx
    iexact Hw
  iexists f; iexact Ha

/-- What a chunk's copy hands over when it is through. -/
theorem landed_put (c : Dev nD) (r : ℕ) (b : Fin 2) (f : (cc0_scratch2 : Ref sig .tc).ty.Contents (Elt F))
    (fo : (main_v1 : Ref sig .tc).ty.Contents (Elt F)) :
    iprop(((outChunk (chunkAt r b)).view.loc (c : Thread nD τ) ↦[(outChunk (chunkAt r b)).view.set]{fullShare}
          ((outChunk (chunkAt r b)).view.write (Elt F) fo ((accSlot b).view.read (Elt F)
            ((accM.access (accR b) : View sig .tc _ _ _).write (Elt F) f (chunkPay m c (chunkAt r b)) Finset.univ)) Finset.univ))
        ∗ accPart c b ((accM.access (accR b) : View sig .tc _ _ _).write (Elt F) f (chunkPay m c (chunkAt r b)) Finset.univ))
      ⊢ ((Rd m).payload (cp c b) r c : sProp 𝕄) := by
  rw [pay_cp, read_place]
  unfold putPay outPart
  iintro ⟨Ho, Ha⟩
  isplitl [Ho]
  · iapply (Entails.of_eq (pointsTo_congr (write_agrees _ _ _ _ (read_outOf m c (chunkAt r b))))); iexact Ho
  iexists _; iexact Ha

theorem run_put (c : Dev nD) (r : ℕ) (hr : r < 2) (b : Fin 2) (Q : PUnit → sProp 𝕄) :
    iprop(records m K ∗ reached ER (cp c b) r ∗ dutyTok ER (cp c b) r c ∗ outAny (F := F) c (chunkAt r b) ∗ filled m c (chunkAt r b) b
        ∗ (cred (tallyAt (cp c b) () NC) -∗ Q ⟨⟩))
      ⊢ run c (putStep (chunkAt r b) b) Q := by
  unfold putStep outAny filled outPart accPart run
  iintro ⟨#HR, #Hr, Ht, ⟨%fo, Ho⟩, ⟨%f, Ha⟩, Hk⟩
  iapply (Rounds.wp_copy_pointsTo 𝒱₀ ER (Rd m) (c : Thread nD τ) none (κ := K (c, kP b)) (r := r) (d := c)
    (src := accSlot b) (dst := outChunk (chunkAt r b)) (sem := .dma (cSem b)) (q := fullShare) (fd := fo)
    (by rw [duties_put m c b hr]; exact Finset.mem_singleton_self _) () NC (outChunk_credit _) (amount_cp m c b r c)
    (landed_put m c r b f fo)) $$ [Ha Ho Ht]
  · isplitr; · iapply (inv_cp m K c b); iexact HR
    isplitl [Ha]; · iexact Ha
    isplitl [Ho]; · iexact Ho
    isplitl [Ht]; · iexact Ht
    iexact Hr
  iintro Hc
  rw [wp_ret]; imodintro
  iapply Hk
  iexact Hc

theorem run_putWait (c : Dev nD) (r : ℕ) (hr : r < 2) (b : Fin 2) (Q : PUnit → sProp 𝕄) :
    iprop(records m K ∗ cred (tallyAt (cp c b) () NC) ∗ atPos ER (cp c b) r ∅ 0 ∗ owing c 0
        ∗ ((owing c 0 ∗ atPos ER (cp c b) (r + 1) ∅ 0 ∗ reached ER (cp c b) (r + 1) ∗ outPart c (chunkAt r b) (outOf m c) ∗ accAny (F := F) c b) -∗ Q ⟨⟩))
      ⊢ run c (putWait (chunkAt r b) b) Q := by
  unfold putWait owing run
  iintro ⟨#HR, Hc, Hat, ⟨%W, HO⟩, Hk⟩
  iapply (Rounds.wp_wait_rest_token 𝒱₀ ER (Rd m) (c : Thread nD τ) none (sm := .dma (cSem b)) (κ := K (c, kP b))
      (wpE_waitDma2_eq 𝒱₀ (c : Thread nD τ) none Set.univ) (Set.mem_univ _) () (O := 0) (W := W) (R := r) (m := 0) (T := ∅)
      (by rw [Nat.zero_add]; exact (outChunk_credit _).trans (expect_put m c b hr).symm)) $$ [Hc HO Hat]
  · isplitr; · iapply (inv_cp m K c b); iexact HR
    isplitl [Hc]; · iexact Hc
    isplitl [HO]; · iexact HO
    isplitr; · rw [MayWait_zero]; iempintro
    iexact Hat
  iintro ⟨HO, Hat, #Hre, Hpay⟩
  ihave Hp := (Entails.of_eq (rest_put m c b hr)) $$ Hpay
  unfold putPay
  icases Hp with ⟨Ho, Ha⟩
  rw [wp_ret]; imodintro
  iapply Hk
  isplitl [HO]; · iexists _; iexact HO
  isplitl [Hat]; · iexact Hat
  isplitr; · iexact Hre
  isplitl [Ho]; · iexact Ho
  unfold accAny; iexact Ha

/-- A chunk is computed and its copy started. -/
theorem run_prod_put (c : Dev nD) (r : ℕ) (hr : r < 2) (b : Fin 2) (k : Run F PUnit) (Q : PUnit → sProp 𝕄) :
    iprop(records m K ∗ reached ER (cp c b) r ∗ dutyTok ER (cp c b) r c ∗ outAny (F := F) c (chunkAt r b) ∗ accAny (F := F) c b ∗ gathered m c
        ∗ ((cred (tallyAt (cp c b) () NC) ∗ gathered m c) -∗ run c k Q))
      ⊢ run c ((prodStep (chunkAt r b) b (scaleOf m c)).bind fun _ => (putStep (chunkAt r b) b).bind fun _ => k) Q := by
  rw [run_bind]
  iintro ⟨#HR, #Hr, Ht, Ho, Ha, Hg, Hk⟩
  iapply (run_prod m c (chunkAt r b) b)
  isplitl [Hg]; · iexact Hg
  isplitl [Ha]; · iexact Ha
  iintro ⟨Hg, Ha⟩
  rw [run_bind]
  iapply (run_put m K c r hr b)
  isplitr; · iexact HR
  isplitr; · iexact Hr
  isplitl [Ht]; · iexact Ht
  isplitl [Ho]; · iexact Ho
  isplitl [Ha]; · iexact Ha
  iintro Hc
  iapply Hk
  isplitl [Hc]; · iexact Hc
  iexact Hg

/-- What the chunks need: for each place its position and its two duties; the places and the result's rows. -/
def chunksPre (c : Dev nD) : sProp 𝕄 :=
  iprop((atPos ER (cp c 0) 0 ∅ 0 ∗ atPos ER (cp c 1) 0 ∅ 0)
    ∗ (dutyTok ER (cp c 0) 0 c ∗ dutyTok ER (cp c 0) 1 c ∗ dutyTok ER (cp c 1) 0 c ∗ dutyTok ER (cp c 1) 1 c)
    ∗ (accAny (F := F) c 0 ∗ accAny (F := F) c 1)
    ∗ (outAny (F := F) c 0 ∗ outAny (F := F) c 1 ∗ outAny (F := F) c 2 ∗ outAny (F := F) c 3))
/-- What they leave: the result, and both places. -/
def chunksPost (c : Dev nD) : sProp 𝕄 :=
  iprop((atPos ER (cp c 0) 2 ∅ 0 ∗ atPos ER (cp c 1) 2 ∅ 0)
    ∗ (accAny (F := F) c 0 ∗ accAny (F := F) c 1)
    ∗ (outPart c 0 (outOf m c) ∗ outPart c 1 (outOf m c) ∗ outPart c 2 (outOf m c) ∗ outPart c 3 (outOf m c)))

theorem run_chunks (c : Dev nD) (Q : PUnit → sProp 𝕄) :
    iprop(records m K ∗ chunksPre (F := F) c ∗ gathered m c ∗ owing c 0 ∗ ((chunksPost m c ∗ gathered m c ∗ owing c 0) -∗ Q ⟨⟩))
      ⊢ run c (chunks (scaleOf m c)) Q := by
  unfold chunks chunksPre chunksPost
  iintro ⟨#HR, ⟨⟨Hp0, Hp1⟩, ⟨Ht00, Ht01, Ht10, Ht11⟩, ⟨Ha0, Ha1⟩, Ho0, Ho1, Ho2, Ho3⟩, Hg, HO, Hk⟩
  iapply (run_prod_put m K c 0 (by decide) 0)
  isplitr; · iexact HR
  isplitr; · iapply (reached_cp m K c 0); iexact HR
  isplitl [Ht00]; · iexact Ht00
  isplitl [Ho0]; · iexact Ho0
  isplitl [Ha0]; · iexact Ha0
  isplitl [Hg]; · iexact Hg
  iintro ⟨Hc0, Hg⟩
  iapply (run_prod_put m K c 0 (by decide) 1)
  isplitr; · iexact HR
  isplitr; · iapply (reached_cp m K c 1); iexact HR
  isplitl [Ht10]; · iexact Ht10
  isplitl [Ho1]; · iexact Ho1
  isplitl [Ha1]; · iexact Ha1
  isplitl [Hg]; · iexact Hg
  iintro ⟨Hc1, Hg⟩
  rw [run_bind]
  iapply (run_putWait m K c 0 (by decide) 0)
  isplitr; · iexact HR
  isplitl [Hc0]; · iexact Hc0
  isplitl [Hp0]; · iexact Hp0
  isplitl [HO]; · iexact HO
  iintro ⟨HO, Hp0, #Hr0, Ho0, Ha0⟩
  iapply (run_prod_put m K c 1 (by decide) 0)
  isplitr; · iexact HR
  isplitr; · iexact Hr0
  isplitl [Ht01]; · iexact Ht01
  isplitl [Ho2]; · iexact Ho2
  isplitl [Ha0]; · iexact Ha0
  isplitl [Hg]; · iexact Hg
  iintro ⟨Hc0, Hg⟩
  rw [run_bind]
  iapply (run_putWait m K c 0 (by decide) 1)
  isplitr; · iexact HR
  isplitl [Hc1]; · iexact Hc1
  isplitl [Hp1]; · iexact Hp1
  isplitl [HO]; · iexact HO
  iintro ⟨HO, Hp1, #Hr1, Ho1, Ha1⟩
  iapply (run_prod_put m K c 1 (by decide) 1)
  isplitr; · iexact HR
  isplitr; · iexact Hr1
  isplitl [Ht11]; · iexact Ht11
  isplitl [Ho3]; · iexact Ho3
  isplitl [Ha1]; · iexact Ha1
  isplitl [Hg]; · iexact Hg
  iintro ⟨Hc1, Hg⟩
  rw [run_bind]
  iapply (run_putWait m K c 1 (by decide) 0)
  isplitr; · iexact HR
  isplitl [Hc0]; · iexact Hc0
  isplitl [Hp0]; · iexact Hp0
  isplitl [HO]; · iexact HO
  iintro ⟨HO, Hp0, -, Ho2, Ha0⟩
  iapply (run_putWait m K c 1 (by decide) 1)
  isplitr; · iexact HR
  isplitl [Hc1]; · iexact Hc1
  isplitl [Hp1]; · iexact Hp1
  isplitl [HO]; · iexact HO
  iintro ⟨HO, Hp1, -, Ho3, Ha1⟩
  iapply Hk
  isplitr [Hg HO]
  · isplitl [Hp0 Hp1]
    · isplitl [Hp0]; · iexact Hp0
      iexact Hp1
    isplitl [Ha0 Ha1]
    · isplitl [Ha0]; · iexact Ha0
      iexact Ha1
    isplitl [Ho0]; · iexact Ho0
    isplitl [Ho1]; · iexact Ho1
    isplitl [Ho2]; · iexact Ho2
    iexact Ho3
  isplitl [Hg]; · iexact Hg
  iexact HO

end Cert.Gather
end
-- ==== Proof.Pieces.lean ====
/-
  How what a device holds comes apart and goes together again: its buffers into the places of the exchange, its own
  blocks into the shares its copies read, its cells into kinds; and how its cells close.
-/
module

public import proofs.«01_k».proof.Proof.Chunks

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (K : Dev nD × Cell → ℕ)

/-! ## Buffers and their places -/

/-- A buffer covered by disjoint sets of its elements is held whole when all the sets are held. -/
theorem whole_eq {T : Type} [Fintype T] (ℓ : Loc nD τ sig) (S : T → Finset (Idx ℓ)) (hc : ∀ i, ∃ t, i ∈ S t)
    (hd : ∀ t t', t ≠ t' → Disjoint (S t) (S t')) (f : Buf (Elt F) ℓ) :
    (ℓ ↦[Finset.univ]{fullShare} f : sProp 𝕄) = bigSep Finset.univ fun t => ℓ ↦[S t]{fullShare} f := by
  have h : Finset.univ.biUnion S = Finset.univ := Finset.eq_univ_iff_forall.mpr fun i =>
    Finset.mem_biUnion.mpr ((hc i).imp fun t ht => ⟨Finset.mem_univ _, ht⟩)
  rw [← pointsTo_biUnion Finset.univ S fun t _ t' _ => hd t t', h]
/-- And they may be held at different contents. -/
theorem whole_join {T : Type} [Fintype T] (ℓ : Loc nD τ sig) (S : T → Finset (Idx ℓ)) (hc : ∀ i, ∃ t, i ∈ S t)
    (hd : ∀ t t', t ≠ t' → Disjoint (S t) (S t')) (fs : T → Buf (Elt F) ℓ) (f₀ : Buf (Elt F) ℓ) :
    (bigSep Finset.univ fun t => ℓ ↦[S t]{fullShare} fs t) ⊢ (iprop(∃ g, ℓ ↦[Finset.univ]{fullShare} g) : sProp 𝕄) := by
  have h : Finset.univ.biUnion S = Finset.univ := Finset.eq_univ_iff_forall.mpr fun i =>
    Finset.mem_biUnion.mpr ((hc i).imp fun t ht => ⟨Finset.mem_univ _, ht⟩)
  iintro H
  ihave H := (pointsTo_biUnion_join Finset.univ S fs f₀ fun t _ t' _ => hd t t') $$ H
  rw [h]
  icases H with ⟨%g, -, H⟩
  iexists g; iexact H

/-- Every element is in one of the sets that cover. -/
theorem in_cover {A T : Type} [Fintype A] [DecidableEq A] [Fintype T] {S S' : T → Finset A} (h : Finset.univ.biUnion S = Finset.univ)
    (hs : ∀ t, S' t = S t) (i : A) : ∃ t, i ∈ S' t := by
  obtain ⟨t, _, ht⟩ := Finset.mem_biUnion.mp (Finset.eq_univ_iff_forall.mp h i)
  exact ⟨t, by rw [hs]; exact ht⟩

theorem x_places (c : Dev nD) (f : (cc0_scratch0 : Ref sig .tc).ty.Contents (Elt F)) :
    (xcM.view.loc (c : Thread nD τ) ↦[Finset.univ]{fullShare} f : sProp 𝕄) = bigSep Finset.univ fun j => xPart c j f :=
  whole_eq (xcM.view.loc (c : Thread nD τ)) (fun j => (xSlot j).view.set) (in_cover xR_cover xSlot_set)
    (fun j j' h => by rw [xSlot_set, xSlot_set]; exact xR_disjoint j j' h) f
theorem w_places (c : Dev nD) (f : (cc0_scratch1 : Ref sig .tc).ty.Contents (Elt F)) :
    (wcM.view.loc (c : Thread nD τ) ↦[Finset.univ]{fullShare} f : sProp 𝕄) = bigSep Finset.univ fun j => wPart c j f :=
  whole_eq (wcM.view.loc (c : Thread nD τ)) (fun j => (wSlot j).view.set) (in_cover wR_cover wSlot_set)
    (fun j j' h => by rw [wSlot_set, wSlot_set]; exact wR_disjoint j j' h) f
theorem out_chunks (c : Dev nD) (f : (main_v1 : Ref sig .tc).ty.Contents (Elt F)) :
    (outM.view.loc (c : Thread nD τ) ↦[Finset.univ]{fullShare} f : sProp 𝕄) = bigSep Finset.univ fun i => outPart c i f :=
  whole_eq (outM.view.loc (c : Thread nD τ)) (fun i => (outChunk i).view.set) (in_cover outR_cover outChunk_set)
    (fun i i' h => by rw [outChunk_set, outChunk_set]; exact outR_disjoint i i' h) f
theorem acc_places (c : Dev nD) (f : (cc0_scratch2 : Ref sig .tc).ty.Contents (Elt F)) :
    (accM.view.loc (c : Thread nD τ) ↦[Finset.univ]{fullShare} f : sProp 𝕄) = bigSep Finset.univ fun b => accPart c b f :=
  whole_eq (accM.view.loc (c : Thread nD τ)) (fun b => (accSlot b).view.set) (in_cover accR_cover accSlot_set)
    (fun b b' h => by rw [accSlot_set, accSlot_set]; exact accR_disjoint b b' h) f

theorem bigSep_four {Φ : Fin 4 → sProp 𝕄} : bigSep Finset.univ Φ = iprop(Φ 0 ∗ Φ 1 ∗ Φ 2 ∗ Φ 3) :=
  bigSep_univ_eq_bigSepL [0, 1, 2, 3] (by decide) (by decide) Φ

/-- The two gather buffers, whatever they hold, are the places a device opens to everyone. -/
theorem open_places (c : Dev nD) (f : (cc0_scratch0 : Ref sig .tc).ty.Contents (Elt F)) (g : (cc0_scratch1 : Ref sig .tc).ty.Contents (Elt F)) :
    iprop((xcM.view.loc (c : Thread nD τ) ↦[Finset.univ]{fullShare} f) ∗ (wcM.view.loc (c : Thread nD τ) ↦[Finset.univ]{fullShare} g))
      ⊢ (iprop(openFor (F := F) c c ∗ bigSep (Finset.univ.erase c) fun p => openFor (F := F) c p) : sProp 𝕄) := by
  rw [x_places, w_places, ← bigSep_univ_at (fun p => openFor (F := F) c p) c, ← bigSep_sep']
  refine bigSep_mono fun p _ => ?_
  unfold openFor
  show iprop(xPart c p f ∗ wPart c p g) ⊢ _
  iintro ⟨Hx, Hw⟩
  isplitl [Hx]; · iexists f; iexact Hx
  iexists g; iexact Hw

/-- All places holding what belongs there, the operands are gathered. -/
theorem gather (c : Dev nD) :
    iprop((xPart c c (XG m) ∗ wPart c c (WG m)) ∗ bigSep (Finset.univ.erase c) fun j => iprop(xPart c j (XG m) ∗ wPart c j (WG m)))
      ⊢ (gathered m c : sProp 𝕄) := by
  rw [← bigSep_univ_at (fun j => iprop(xPart c j (XG m) ∗ wPart c j (WG m))) c, bigSep_sep', ← x_places, ← w_places]
  exact Entails.of_eq rfl

/-- The accumulator is its two places. -/
theorem acc_split (c : Dev nD) (f : (cc0_scratch2 : Ref sig .tc).ty.Contents (Elt F)) :
    (accM.view.loc (c : Thread nD τ) ↦[Finset.univ]{fullShare} f) ⊢ (iprop(accAny (F := F) c 0 ∗ accAny (F := F) c 1) : sProp 𝕄) := by
  rw [acc_places, bigSep_univ_two]
  unfold accAny
  iintro ⟨H0, H1⟩
  isplitl [H0]; · iexists f; iexact H0
  iexists f; iexact H1
theorem acc_join (c : Dev nD) :
    iprop(accAny (F := F) c 0 ∗ accAny (F := F) c 1) ⊢ (iprop(∃ f, accM.view.loc (c : Thread nD τ) ↦[Finset.univ]{fullShare} f) : sProp 𝕄) := by
  unfold accAny accPart
  iintro ⟨⟨%f, H0⟩, ⟨%g, H1⟩⟩
  iapply (whole_join (accM.view.loc (c : Thread nD τ)) (fun b => (accSlot b).view.set) (in_cover accR_cover accSlot_set)
    (fun b b' h => by rw [accSlot_set, accSlot_set]; exact accR_disjoint b b' h) (fun b => if b = 0 then f else g) f)
  rw [bigSep_univ_two, if_pos rfl, if_neg (by decide)]
  isplitl [H0]
  · iexact H0
  · iexact H1

theorem out_split (c : Dev nD) (f : (main_v1 : Ref sig .tc).ty.Contents (Elt F)) :
    (outM.view.loc (c : Thread nD τ) ↦[Finset.univ]{fullShare} f)
      ⊢ (iprop(outAny (F := F) c 0 ∗ outAny (F := F) c 1 ∗ outAny (F := F) c 2 ∗ outAny (F := F) c 3) : sProp 𝕄) := by
  rw [out_chunks, bigSep_four]
  unfold outAny
  iintro ⟨H0, H1, H2, H3⟩
  isplitl [H0]; · iexists f; iexact H0
  isplitl [H1]; · iexists f; iexact H1
  isplitl [H2]; · iexists f; iexact H2
  iexists f; iexact H3
theorem out_join (c : Dev nD) (f : (main_v1 : Ref sig .tc).ty.Contents (Elt F)) :
    iprop(outPart c 0 f ∗ outPart c 1 f ∗ outPart c 2 f ∗ outPart c 3 f)
      ⊢ (outM.view.loc (c : Thread nD τ) ↦[Finset.univ]{fullShare} f : sProp 𝕄) := by
  rw [out_chunks, bigSep_four]

/-! ## The device's own blocks and the shares its copies read -/

/-- The two blocks, whole. -/
def blocks (c : Dev nD) : sProp 𝕄 :=
  iprop((xM.view.loc (c : Thread nD τ) ↦[Finset.univ]{fullShare} xOf m c) ∗ (wM.view.loc (c : Thread nD τ) ↦[Finset.univ]{fullShare} wOf m c))

/-- The same in shares: what stays, its own share, and its peers'. -/
def shares (c : Dev nD) : sProp 𝕄 :=
  iprop((xKeep m c ∗ wKeep m c) ∗ (xShare m c c ∗ wShare m c c) ∗ bigSep (Finset.univ.erase c) fun p => iprop(xShare m c p ∗ wShare m c p))

theorem shares_eq (c : Dev nD) : (shares m c : sProp 𝕄)
    = iprop((xKeep m c ∗ wKeep m c) ∗ (bigSep Finset.univ fun p => xShare m c p) ∗ bigSep Finset.univ fun p => wShare m c p) := by
  unfold shares
  rw [← bigSep_univ_at (fun p => iprop(xShare m c p ∗ wShare m c p)) c, bigSep_sep']

theorem blocks_split (c : Dev nD) : blocks m c ⊢ (shares m c : sProp 𝕄) := by
  rw [shares_eq]
  unfold blocks xKeep wKeep xShare wShare
  rw [xM_set, wM_set]
  iintro ⟨Hx, Hw⟩
  ihave Hx := (Transfers.pointsTo_toks_split fullShare 8) $$ Hx
  ihave Hw := (Transfers.pointsTo_toks_split fullShare 8) $$ Hw
  icases Hx with ⟨Hx0, Hx⟩
  icases Hw with ⟨Hw0, Hw⟩
  isplitl [Hx0 Hw0]
  · isplitl [Hx0]; · iexact Hx0
    iexact Hw0
  isplitl [Hx]; · iexact Hx
  iexact Hw
theorem blocks_join (c : Dev nD) : shares m c ⊢ (blocks m c : sProp 𝕄) := by
  rw [shares_eq]
  unfold blocks xKeep wKeep xShare wShare
  rw [xM_set, wM_set]
  iintro ⟨⟨Hx0, Hw0⟩, Hx, Hw⟩
  isplitl [Hx0 Hx]
  · iapply (Transfers.pointsTo_toks_join fullShare 8)
    isplitl [Hx0]; · iexact Hx0
    iexact Hx
  · iapply (Transfers.pointsTo_toks_join fullShare 8)
    isplitl [Hw0]; · iexact Hw0
    iexact Hw

/-! ## The cells by kind -/

/-- All of a device's cells at their first round. -/
def atAll (c : Dev nD) : sProp 𝕄 := bigSep Finset.univ fun k : Cell => atPos ER (kcell (c, k)) 0 ∅ 0

/-- The cells of one kind at round `r` for the peers, and at the first for the device itself. -/
def kindAt (c : Dev nD) (k : Fin 4) (r : ℕ) : sProp 𝕄 :=
  iprop(atPos ER (kcell (c, kX k c)) 0 ∅ 0 ∗ bigSep (Finset.univ.erase c) fun p => atPos ER (kcell (c, kX k p)) r ∅ 0)

theorem bigSep_cell {Φ : Cell → sProp 𝕄} :
    bigSep Finset.univ Φ = iprop(Φ kBar ∗ (bigSep Finset.univ fun k : Own => Φ (.inr k))) :=
  (bigSep_univ_sum Φ).trans (congrArg (fun P : sProp 𝕄 => iprop(P ∗ bigSep Finset.univ fun k : Own => Φ (.inr k)))
    ((bigSep_univ_of_subsingleton (I := Unit) ())))
theorem bigSep_own {Φ : Own → sProp 𝕄} :
    bigSep Finset.univ Φ = iprop(((bigSep Finset.univ fun p => Φ (.inl (0, p))) ∗ (bigSep Finset.univ fun p => Φ (.inl (1, p)))
        ∗ (bigSep Finset.univ fun p => Φ (.inl (2, p))) ∗ (bigSep Finset.univ fun p => Φ (.inl (3, p))))
      ∗ Φ (.inr 0) ∗ Φ (.inr 1)) := by
  refine (bigSep_univ_sum Φ).trans ?_
  rw [bigSep_univ_prod, bigSep_four, bigSep_univ_two]
  rfl

theorem atAll_eq (c : Dev nD) : (atAll c : sProp 𝕄)
    = iprop(atPos ER (barC c) 0 ∅ 0 ∗ (kindAt c 0 0 ∗ kindAt c 1 0 ∗ kindAt c 2 0 ∗ kindAt c 3 0) ∗ atPos ER (cp c 0) 0 ∅ 0 ∗ atPos ER (cp c 1) 0 ∅ 0) := by
  unfold atAll kindAt
  rw [bigSep_cell, bigSep_own]
  rw [bigSep_univ_at _ c, bigSep_univ_at _ c, bigSep_univ_at _ c, bigSep_univ_at _ c]
  rfl

/-! ## Closing -/

/-- The cells of one kind, each waited for, are closed: their counters are zero. -/
theorem kind_close (c : Dev nD) (k : Fin 4) :
    iprop(records m K ∗ kindAt c k 1) ⊢ (|={Set.univ}=> bigSep Finset.univ fun p => semVal (kcell (c, kX k p)) 0 : sProp 𝕄) := by
  rw [bigSep_univ_at (fun p => semVal (kcell (c, kX k p)) 0) c]
  unfold kindAt
  iintro ⟨#HR, Hc, Hs⟩
  imod (Rounds.cell_close ER (Rd m) (Set.mem_univ (K (c, kX k c))) (fun h => h) (R := 0) (duties_xfer_self m c k)) $$ [Hc] with Hz
  · isplitr; · iapply (inv_at m K (c, kX k c)); iexact HR
    iexact Hc
  imod ((bigSep_with_persistent (R := records m K) (Φ := fun p => atPos ER (kcell (c, kX k p)) 1 ∅ 0)
      (Ψ := fun p => iprop(|={Set.univ}=> semVal (kcell (c, kX k p)) 0)) (S := Finset.univ.erase c) (fun p _ => by
        iintro ⟨#HR, Hp⟩
        iapply (Rounds.cell_close ER (Rd m) (Set.mem_univ (K (c, kX k p))) (fun h => h) (R := 1) (duties_xfer_late m c k p))
        isplitr; · iapply (inv_at m K (c, kX k p)); iexact HR
        iexact Hp)).trans (bigSep_fupd _ _)) $$ [Hs] with Hzs
  · isplitr; · iexact HR
    iexact Hs
  imodintro
  isplitl [Hz]; · iexact Hz
  iexact Hzs

/-- All a device's counters at zero: the barrier's and its own. -/
def zeros (c : Dev nD) : sProp 𝕄 :=
  iprop(semVal (barC c) 0 ∗ bigSep Finset.univ fun k : Own => semVal ((c : Thread nD τ), osem k) 0)

theorem close_all (c : Dev nD) :
    iprop(records m K ∗ atPos ER (barC c) 1 ∅ 0 ∗ (kindAt c 0 1 ∗ kindAt c 1 1 ∗ kindAt c 2 1 ∗ kindAt c 3 1)
        ∗ atPos ER (cp c 0) 2 ∅ 0 ∗ atPos ER (cp c 1) 2 ∅ 0)
      ⊢ (|={Set.univ}=> zeros c : sProp 𝕄) := by
  unfold zeros
  rw [bigSep_own]
  iintro ⟨#HR, Hb, ⟨H0, H1, H2, H3⟩, Hp0, Hp1⟩
  imod (Rounds.cell_close ER (Rd m) (Set.mem_univ (K (c, kBar))) (fun h => h) (R := 1) (duties_bar_late m c)) $$ [Hb] with Hb
  · isplitr; · iapply (inv_bar m K c); iexact HR
    iexact Hb
  imod (kind_close m K c 0) $$ [H0] with H0
  · isplitr; · iexact HR
    iexact H0
  imod (kind_close m K c 1) $$ [H1] with H1
  · isplitr; · iexact HR
    iexact H1
  imod (kind_close m K c 2) $$ [H2] with H2
  · isplitr; · iexact HR
    iexact H2
  imod (kind_close m K c 3) $$ [H3] with H3
  · isplitr; · iexact HR
    iexact H3
  imod (Rounds.cell_close ER (Rd m) (Set.mem_univ (K (c, kP 0))) (fun h => h) (R := 2) (duties_late m c (kP 0))) $$ [Hp0] with Hp0
  · isplitr; · iapply (inv_cp m K c 0); iexact HR
    iexact Hp0
  imod (Rounds.cell_close ER (Rd m) (Set.mem_univ (K (c, kP 1))) (fun h => h) (R := 2) (duties_late m c (kP 1))) $$ [Hp1] with Hp1
  · isplitr; · iapply (inv_cp m K c 1); iexact HR
    iexact Hp1
  imodintro
  isplitl [Hb]; · iexact Hb
  isplitl [H0 H1 H2 H3]
  · isplitl [H0]; · iexact H0
    isplitl [H1]; · iexact H1
    isplitl [H2]; · iexact H2
    iexact H3
  isplitl [Hp0]; · iexact Hp0
  iexact Hp1

end Cert.Gather
end
-- ==== Proof.Body.lean ====
/-
  The run of one device's body, from what the launch gives the device to its result: every step in program order.
-/
module

public import proofs.«01_k».proof.Proof.Pieces

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ)

/-! ## Families of several resources -/

theorem sep_two (s : Finset (Dev nD)) {A B : Dev nD → sProp 𝕄} : iprop(bigSep s A ∗ bigSep s B) ⊢ bigSep s fun p => iprop(A p ∗ B p) := by
  rw [bigSep_sep']
theorem sep_three (s : Finset (Dev nD)) {A B C : Dev nD → sProp 𝕄} :
    iprop(bigSep s A ∗ bigSep s B ∗ bigSep s C) ⊢ bigSep s fun p => iprop(A p ∗ B p ∗ C p) := by
  rw [bigSep_sep', bigSep_sep']
theorem three_sep (s : Finset (Dev nD)) {A B C : Dev nD → sProp 𝕄} :
    (bigSep s fun p => iprop(A p ∗ B p ∗ C p)) ⊢ iprop(bigSep s A ∗ bigSep s B ∗ bigSep s C) := by
  rw [bigSep_sep', bigSep_sep']

/-! ## The loops over the peers -/

theorem recvO_insert (c p : Dev nD) (s : Finset (Dev nD)) (h : p ∉ s) : recvO c (insert p s) = recvO c s + recvT c p := by
  unfold recvO; rw [Finset.sum_insert h, add_comm]
theorem barO_insert (p : Dev nD) (s : Finset (Dev nD)) (h : p ∉ s) : barO (insert p s) = barO s + tallyAt (barC p) () 1 := by
  unfold barO; rw [Finset.sum_insert h, add_comm]
theorem recvO_empty (c : Dev nD) : recvO c ∅ = 0 := Finset.sum_empty
theorem barO_empty : barO ∅ = 0 := Finset.sum_empty

theorem ring_ne (c : Dev nD) : ∀ p ∈ ring c, p ≠ c := fun p hp =>
  Finset.ne_of_mem_erase ((ring_toFinset c) ▸ List.mem_toFinset.mpr hp)
theorem peers_ne (c : Dev nD) : ∀ p ∈ peers c, p ≠ c := fun p hp =>
  Finset.ne_of_mem_erase ((peers_toFinset c) ▸ List.mem_toFinset.mpr hp)

/-- All the peers are signalled: each is given its places, and the units owed are paid. -/
theorem run_signals (c : Dev nD) (Q : PUnit → sProp 𝕄) :
    iprop(records m K ∗ (bigSep (Finset.univ.erase c) fun p => signalR (F := F) c p) ∗ owing c (O₀ c)
        ∗ (owing c (recvO c (Finset.univ.erase c)) -∗ Q ⟨⟩))
      ⊢ run c (each (ring c) signalStep) Q := by
  have h := run_each c (records m K) (fun p => signalR (F := F) c p) (fun _ => iprop(emp))
    (fun s => owing c (recvO c (Finset.univ.erase c) + barO s)) signalStep (fun p => p ≠ c)
    (fun p s Q hp hs => by
      rw [barO_insert p s hs, ← add_assoc]
      iintro ⟨#HR, Hp, HO, Hk⟩
      iapply (run_signal m K c p hp.symm)
      isplitr; · iexact HR
      isplitl [Hp]; · iexact Hp
      isplitl [HO]; · iexact HO
      iintro HO
      iapply Hk
      isplitr; · iempintro
      iexact HO)
    (ring c) (ring_nodup c) (ring_ne c) Q
  rw [ring_toFinset, barO_empty, add_zero] at h
  iintro ⟨#HR, Hs, HO, Hk⟩
  iapply h
  isplitr; · iexact HR
  isplitl [Hs]; · iexact Hs
  isplitl [HO]; · unfold O₀; iexact HO
  iintro ⟨-, HO⟩
  iapply Hk
  iexact HO

/-- Both blocks are sent to all the peers, and nothing more is owed. -/
theorem run_sends (c : Dev nD) (Q : PUnit → sProp 𝕄) :
    iprop(records m K ∗ (bigSep (Finset.univ.erase c) fun p => sendR m c p) ∗ owing c (recvO c (Finset.univ.erase c))
        ∗ (((bigSep (Finset.univ.erase c) fun p => sentCred (F := F) c p) ∗ owing c 0) -∗ Q ⟨⟩))
      ⊢ run c (each (peers c) (sendStep c)) Q := by
  have h := run_each c (records m K) (fun p => sendR m c p) (fun p => sentCred (F := F) c p)
    (fun s => owing c (recvO c s)) (sendStep c) (fun p => p ≠ c)
    (fun p s Q hp hs => by rw [recvO_insert c p s hs]; exact run_send m K c p hp (recvO c s) Q)
    (peers c) (peers_nodup c) (peers_ne c) Q
  rw [peers_toFinset, recvO_empty] at h
  exact h

/-- Every peer's blocks have arrived. -/
theorem run_recvs (c : Dev nD) (Q : PUnit → sProp 𝕄) :
    iprop(records m K ∗ (bigSep (Finset.univ.erase c) fun j => recvR (F := F) c j) ∗ owing c 0
        ∗ (((bigSep (Finset.univ.erase c) fun j => recvS m c j) ∗ owing c 0) -∗ Q ⟨⟩))
      ⊢ run c (each (peers c) recvStep) Q := by
  have h := run_each c (records m K) (fun j => recvR (F := F) c j) (fun j => recvS m c j) (fun _ => owing c 0) recvStep (fun p => p ≠ c)
    (fun j s Q hj _ => run_recv m K c j hj Q) (peers c) (peers_nodup c) (peers_ne c) Q
  rw [peers_toFinset] at h
  exact h

/-- Every copy to a peer has left. -/
theorem run_sents (c : Dev nD) (Q : PUnit → sProp 𝕄) :
    iprop(records m K ∗ (bigSep (Finset.univ.erase c) fun p => sentR (F := F) c p) ∗ owing c 0
        ∗ (((bigSep (Finset.univ.erase c) fun p => sentS m c p) ∗ owing c 0) -∗ Q ⟨⟩))
      ⊢ run c (each (peers c) (sentStep c)) Q := by
  have h := run_each c (records m K) (fun p => sentR (F := F) c p) (fun p => sentS m c p) (fun _ => owing c 0) (sentStep c) (fun p => p ≠ c)
    (fun p s Q hp _ => run_sent m K c p hp Q) (peers c) (peers_nodup c) (peers_ne c) Q
  rw [peers_toFinset] at h
  exact h

/-! ## The scales -/

/-- Both scales, held. -/
def scales (c : Dev nD) : sProp 𝕄 :=
  iprop((sxM.view.loc (c : Thread nD τ) ↦[Finset.univ]{fullShare} sxOf m c) ∗ (swM.view.loc (c : Thread nD τ) ↦[Finset.univ]{fullShare} swOf m c))

/-- The scales are read, and their product is the device's. -/
theorem run_scales (c : Dev nD) (k : F .f32 → Run F PUnit) (Q : PUnit → sProp 𝕄) :
    iprop(scales m c ∗ (scales m c -∗ run c (k (scaleOf m c)) Q))
      ⊢ run c ((smemLoad sxM (Rect.unit (s := S1) ![0] S1.size inb_S1_S1_0) numel1_S1 rfl).bind fun a =>
          (smemLoad swM (Rect.unit (s := S1) ![0] S1.size inb_S1_S1_0) numel1_S1 rfl).bind fun b => k (k0_pay17 a b)) Q := by
  rw [run_bind]
  unfold scales run
  iintro ⟨⟨Hx, Hw⟩, Hk⟩
  iapply (wp_smemLoadElt 𝒱₀ (c : Thread nD τ) none Set.univ (m := sxM) (r := Rect.unit (s := S1) ![0] S1.size inb_S1_S1_0) (Finset.subset_univ _)) $$ Hx
  iintro Hx
  rw [wp_ret]; imodintro
  iapply (Entails.of_eq (run_bind c _ _ Q).symm)
  iapply (wp_smemLoadElt 𝒱₀ (c : Thread nD τ) none Set.univ (m := swM) (r := Rect.unit (s := S1) ![0] S1.size inb_S1_S1_0) (Finset.subset_univ _)) $$ Hw
  iintro Hw
  rw [wp_ret]; imodintro
  rw [read_sx, read_sw]
  iapply Hk
  isplitl [Hx]; · iexact Hx
  iexact Hw

/-! ## The whole body -/

/-- The duties device `c` pays: a unit at every peer's barrier, its copies at both ends, its chunks' copies. -/
def sendToks (c p : Dev nD) : sProp 𝕄 :=
  iprop(dutyTok ER (xs c p) 0 c ∗ dutyTok ER (xr p c) 0 c ∗ dutyTok ER (ws c p) 0 c ∗ dutyTok ER (wr p c) 0 c)
def putToks (c : Dev nD) : sProp 𝕄 :=
  iprop(dutyTok ER (cp c 0) 0 c ∗ dutyTok ER (cp c 0) 1 c ∗ dutyTok ER (cp c 1) 0 c ∗ dutyTok ER (cp c 1) 1 c)
def payToks (c : Dev nD) : sProp 𝕄 :=
  iprop((bigSep (Finset.univ.erase c) fun p => dutyTok ER (barC p) 0 c) ∗ (bigSep (Finset.univ.erase c) fun p => sendToks (F := F) c p)
    ∗ putToks (F := F) c)
/-- What device `c` may wait for from its peers. -/
def waitCreds (c : Dev nD) : sProp 𝕄 :=
  iprop(cred (tallyAt (barC c) () 7) ∗ bigSep (Finset.univ.erase c) fun j => iprop(cred (tallyAt (xr c j) () NX) ∗ cred (tallyAt (wr c j) () NW)))

/-- The buffers the body works in, whatever they hold. -/
def scratch (c : Dev nD) : sProp 𝕄 :=
  iprop((∃ f, xcM.view.loc (c : Thread nD τ) ↦[Finset.univ]{fullShare} f) ∗ (∃ f, wcM.view.loc (c : Thread nD τ) ↦[Finset.univ]{fullShare} f)
    ∗ (∃ f, accM.view.loc (c : Thread nD τ) ↦[Finset.univ]{fullShare} f))
/-- The result's buffer holding `f`. -/
def outAt (c : Dev nD) (f : (main_v1 : Ref sig .tc).ty.Contents (Elt F)) : sProp 𝕄 :=
  outM.view.loc (c : Thread nD τ) ↦[Finset.univ]{fullShare} f

/-- What device `c` starts from, besides its inputs. -/
def bodyIn (c : Dev nD) : sProp 𝕄 :=
  iprop(atAll (F := F) c ∗ payToks (F := F) c ∗ waitCreds (F := F) c ∗ scratch (F := F) c ∗ ∃ f, outAt (F := F) c f)
/-- What it ends with: its result, and its counters at zero. -/
def bodyOut (c : Dev nD) : sProp 𝕄 := iprop(zeros (F := F) c ∗ scratch (F := F) c ∗ outAt c (outOf m c))

/-- What ends in an update ends in what the update gives. -/
theorem run_update (c : Dev nD) (p : Run F PUnit) (Q : PUnit → sProp 𝕄) : run c p (fun a => iprop(|={Set.univ}=> Q a)) ⊢ run c p Q :=
  wp_fupd _ _ _ _ _

/-- The body runs from what the launch gives to the result, and leaves the inputs as they were. -/
theorem run_body (c : Dev nD) (Q : PUnit → sProp 𝕄) :
    iprop(records m K ∗ levAts L lv ∗ bodyIn (F := F) c ∗ (blocks m c ∗ scales m c) ∗ owing c (O₀ c)
        ∗ ((bodyOut m c ∗ (blocks m c ∗ scales m c) ∗ owing c 0) -∗ Q ⟨⟩))
      ⊢ run c (deviceBody c) Q := by
  unfold deviceBody bodyIn payToks waitCreds scratch
  rw [run_bind, atAll_eq]
  iintro ⟨#HR, #Hlev, ⟨⟨Hbar, ⟨Hk0, Hk1, Hk2, Hk3⟩, Hp0, Hp1⟩, ⟨Htb, Hts, Htp⟩, ⟨Hcb, Hcr⟩, ⟨⟨%fx, Hx⟩, ⟨%fw, Hw⟩, ⟨%fa, Ha⟩⟩, ⟨%fo, Ho⟩⟩, ⟨Hb, Hsc⟩, HO, Hk⟩
  -- the gather buffers are opened to the peers
  ihave Hopen := (open_places c fx fw) $$ [Hx Hw]
  · isplitl [Hx]; · iexact Hx
    iexact Hw
  icases Hopen with ⟨Hown, Hopen⟩
  iapply (run_signals m K c)
  isplitr; · iexact HR
  isplitl [Htb Hopen]
  · unfold signalR; iapply (sep_two (Finset.univ.erase c))
    isplitl [Htb]; · iexact Htb
    iexact Hopen
  isplitl [HO]; · iexact HO
  iintro HO
  -- the barrier: the peers' places
  rw [run_bind]
  iapply (run_barrier m K c (Finset.univ.erase c))
  isplitr; · iexact HR
  isplitr; · iexact Hlev
  isplitl [Hcb]; · iexact Hcb
  isplitl [Hbar]; · iexact Hbar
  isplitl [HO]; · iexact HO
  iintro ⟨HO, Hbar, Hopen⟩
  -- the sends
  rw [run_bind]
  ihave Hsh := (blocks_split m c) $$ Hb
  unfold shares
  icases Hsh with ⟨⟨Hkx, Hkw⟩, Hself, Hsh⟩
  iapply (run_sends m K c)
  isplitr; · iexact HR
  isplitl [Hopen Hts Hsh]
  · unfold sendR; iapply (sep_three (Finset.univ.erase c))
    isplitl [Hopen]; · iexact Hopen
    isplitl [Hts]; · unfold sendToks; iexact Hts
    iexact Hsh
  isplitl [HO]; · iexact HO
  iintro ⟨Hcs, HO⟩
  -- the device's own blocks
  rw [run_bind]
  iapply (run_place m c)
  isplitl [Hown]; · iexact Hown
  isplitl [Hkx]; · iexact Hkx
  isplitl [Hkw]; · iexact Hkw
  iintro ⟨Hx, Hw, Hkx, Hkw⟩
  -- the peers' blocks
  rw [run_bind]
  unfold kindAt
  icases Hk1 with ⟨Hk1c, Hk1⟩
  icases Hk3 with ⟨Hk3c, Hk3⟩
  iapply (run_recvs m K c)
  isplitr; · iexact HR
  isplitl [Hcr Hk1 Hk3]
  · unfold recvR; iapply (sep_three (Finset.univ.erase c))
    isplitl [Hcr]; · iexact Hcr
    isplitl [Hk1]; · iexact Hk1
    iexact Hk3
  isplitl [HO]; · iexact HO
  iintro ⟨Hrs, HO⟩
  unfold recvS
  ihave Hrs := (three_sep (Finset.univ.erase c)) $$ Hrs
  icases Hrs with ⟨Hparts, Hk1, Hk3⟩
  ihave Hg := (gather m c) $$ [Hx Hw Hparts]
  · isplitl [Hx Hw]
    · isplitl [Hx]; · iexact Hx
      iexact Hw
    iexact Hparts
  -- the scales and the chunks
  iapply (run_scales m c fun s => (chunks s).bind fun _ => each (peers c) (sentStep c))
  isplitl [Hsc]; · iexact Hsc
  iintro Hsc
  rw [run_bind]
  ihave Ha := (acc_split c fa) $$ Ha
  ihave Ho := (out_split c fo) $$ [Ho]
  · unfold outAt; iexact Ho
  iapply (run_chunks m K c)
  isplitr; · iexact HR
  isplitl [Hp0 Hp1 Htp Ha Ho]
  · unfold chunksPre putToks
    isplitl [Hp0 Hp1]
    · isplitl [Hp0]; · iexact Hp0
      iexact Hp1
    isplitl [Htp]; · iexact Htp
    isplitl [Ha]; · iexact Ha
    iexact Ho
  isplitl [Hg]; · iexact Hg
  isplitl [HO]; · iexact HO
  unfold chunksPost gathered
  iintro ⟨⟨⟨Hp0, Hp1⟩, Ha, Ho⟩, ⟨Hgx, Hgw⟩, HO⟩
  -- the copies have left
  icases Hk0 with ⟨Hk0c, Hk0⟩
  icases Hk2 with ⟨Hk2c, Hk2⟩
  iapply (run_update c)
  iapply (run_sents m K c)
  isplitr; · iexact HR
  isplitl [Hcs Hk0 Hk2]
  · unfold sentR; iapply (sep_three (Finset.univ.erase c))
    isplitl [Hcs]; · iexact Hcs
    isplitl [Hk0]; · iexact Hk0
    iexact Hk2
  isplitl [HO]; · iexact HO
  iintro ⟨Hss, HO⟩
  unfold sentS
  ihave Hss := (three_sep (Finset.univ.erase c)) $$ Hss
  icases Hss with ⟨Hsh, Hk0, Hk2⟩
  -- the cells close, and the buffers are whole again
  imod (close_all m K c) $$ [Hbar Hk0c Hk0 Hk1c Hk1 Hk2c Hk2 Hk3c Hk3 Hp0 Hp1] with Hz
  · isplitr; · iexact HR
    isplitl [Hbar]; · iexact Hbar
    isplitl [Hk0c Hk0 Hk1c Hk1 Hk2c Hk2 Hk3c Hk3]
    · unfold kindAt
      isplitl [Hk0c Hk0]
      · isplitl [Hk0c]; · iexact Hk0c
        iexact Hk0
      isplitl [Hk1c Hk1]
      · isplitl [Hk1c]; · iexact Hk1c
        iexact Hk1
      isplitl [Hk2c Hk2]
      · isplitl [Hk2c]; · iexact Hk2c
        iexact Hk2
      isplitl [Hk3c]; · iexact Hk3c
      iexact Hk3
    isplitl [Hp0]; · iexact Hp0
    iexact Hp1
  ihave Hb := (blocks_join m c) $$ [Hkx Hkw Hself Hsh]
  · unfold shares
    isplitl [Hkx Hkw]
    · isplitl [Hkx]; · iexact Hkx
      iexact Hkw
    isplitl [Hself]; · iexact Hself
    iexact Hsh
  ihave Ha := (acc_join c) $$ Ha
  ihave Ho := (out_join c (outOf m c)) $$ Ho
  imodintro
  iapply Hk
  isplitl [Hz Hgx Hgw Ha Ho]
  · unfold bodyOut scratch outAt
    isplitl [Hz]; · iexact Hz
    isplitl [Hgx Hgw Ha]
    · isplitl [Hgx]; · iexists _; iexact Hgx
      isplitl [Hgw]; · iexists _; iexact Hgw
      iexact Ha
    iexact Ho
  isplitl [Hb Hsc]
  · isplitl [Hb]; · iexact Hb
    iexact Hsc
  iexact HO

end Cert.Gather
end
-- ==== Proof.Setup.lean ====
/-
  What the launch deals: every cell under the schedule, to each device the tokens of the duties it pays, and the
  credits of what its peers owe it.
-/
module

public import proofs.«01_k».proof.Proof.Body

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ)

/-! ## The credits -/

/-- What the peers of device `c` owe it. -/
def dueAt (c : Dev nD) : CellTallies nD τ sig Unit := ∑ j ∈ Finset.univ.erase c, (recvT j c + tallyAt (barC c) () 1)

theorem O₀_eq (d : Dev nD) : O₀ d = ∑ p ∈ Finset.univ.erase d, (recvT d p + tallyAt (barC p) () 1) :=
  Finset.sum_add_distrib.symm

/-- Summed over the devices, what they owe is what they are owed. -/
theorem sum_due : (∑ d, O₀ d) = ∑ c, dueAt c := by
  rw [Finset.sum_congr rfl fun d _ => O₀_eq d]
  exact Finset.sum_comm' fun d p => by
    simp only [Finset.mem_univ, Finset.mem_erase, true_and, and_true]; exact ⟨Ne.symm, Ne.symm⟩

theorem dueAt_own (c : Dev nD) (g : GSem nD τ sig) (h : dueAt c g ≠ 0) : g.1 = (c : Thread nD τ) := by
  by_contra hg
  refine h ?_
  have hne (s : SemLoc sig) : g ≠ ((c : Thread nD τ), s) := fun h => hg (congrArg Prod.fst h)
  unfold dueAt
  rw [Finset.sum_apply]
  refine Finset.sum_eq_zero fun j _ => ?_
  unfold recvT
  rw [Pi.add_apply, Pi.add_apply, tallyAt_ne_cell (hne _), tallyAt_ne_cell (hne _), tallyAt_ne_cell (hne _), add_zero, add_zero]

/-- A cell's tallies of one, over a set. -/
theorem sum_units (g : GSem nD τ sig) (s : Finset (Dev nD)) :
    (∑ _j ∈ s, (tallyAt g () 1 : CellTallies nD τ sig Unit)) = tallyAt g () s.card := by
  induction s using Finset.induction_on with
  | empty => rw [Finset.sum_empty, Finset.card_empty, tallyAt_zero]
  | insert a s ha ih => rw [Finset.sum_insert ha, ih, Finset.card_insert_of_notMem ha, tallyAt_add, add_comm]

theorem peers_card (c : Dev nD) : (Finset.univ.erase c).card = 7 := by
  rw [Finset.card_erase_of_mem (Finset.mem_univ c)]; rfl

/-- The launch credits a device with what its peers owe it. -/
theorem credits (c : Dev nD) : (Pipeline.launchCred O₀ c : sProp 𝕄) ⊢ waitCreds (F := F) c := by
  have h : dueAt c = tallyAt (barC c) () 7 + ∑ j ∈ Finset.univ.erase c, (tallyAt (xr c j) () NX + tallyAt (wr c j) () NW) := by
    unfold dueAt
    rw [Finset.sum_add_distrib, sum_units, peers_card, add_comm]
    exact congrArg _ (Finset.sum_congr rfl fun j _ => add_comm _ _)
  rw [Pipeline.launchCred_of_sum O₀ dueAt sum_due dueAt_own c, h]
  unfold waitCreds
  refine (cred_add _ _).1.trans (sep_mono_right ?_)
  rw [Pipeline.cred_finsetSum]
  exact bigSep_mono fun j _ => (cred_add _ _).1

/-! ## The tokens -/

/-- The duties a device pays: at barriers, at the ends of its copies, at its places. -/
abbrev Tok : Type := Fin 8 ⊕ ((Fin 4 × Fin 8) ⊕ (Fin 2 × Fin 2))

def tokCell (d : Dev nD) : Tok → Dev nD × Cell
  | .inl p => (p, kBar)
  | .inr (.inl (0, p)) => (d, kX 0 p)
  | .inr (.inl (1, p)) => (p, kX 1 d)
  | .inr (.inl (2, p)) => (d, kX 2 p)
  | .inr (.inl (3, p)) => (p, kX 3 d)
  | .inr (.inr (b, r)) => (d, kP b)
def tokRound : Tok → ℕ
  | .inr (.inr (_, r)) => r.val
  | _ => 0
/-- The duty that a cell and a round name. -/
def tokBack : (Dev nD × Cell) × ℕ → Tok
  | ((e, .inl _), _) => .inl e
  | ((_, .inr (.inl (0, p))), _) => .inr (.inl (0, p))
  | ((e, .inr (.inl (1, _))), _) => .inr (.inl (1, e))
  | ((_, .inr (.inl (2, p))), _) => .inr (.inl (2, p))
  | ((e, .inr (.inl (3, _))), _) => .inr (.inl (3, e))
  | ((_, .inr (.inr b)), r) => .inr (.inr (b, if r = 0 then 0 else 1))

theorem tokBack_left (d : Dev nD) (t : Tok) : tokBack (tokCell d t, tokRound t) = t := by
  rcases t with p | ⟨k, p⟩ | ⟨b, r⟩
  · rfl
  · fin_cases k <;> rfl
  · fin_cases r <;> rfl

def tokOf (x : Dev nD × Tok) : GSem nD τ sig × ℕ × Dev nD := (kcell (tokCell x.1 x.2), tokRound x.2, x.1)
theorem tokOf_injective : Function.Injective tokOf := fun x y h => by
  obtain ⟨d, t⟩ := x; obtain ⟨e, u⟩ := y
  have h1 : d = e := congrArg (fun z : GSem nD τ sig × ℕ × Dev nD => z.2.2) h
  subst h1
  have h2 : tokCell d t = tokCell d u := kcell_injective (congrArg Prod.fst h)
  have h3 : tokRound t = tokRound u := congrArg (fun z : GSem nD τ sig × ℕ × Dev nD => z.2.1) h
  rw [← tokBack_left d t, h2, h3, tokBack_left]

def allCells : Finset (GSem nD τ sig) := Finset.univ.map ⟨kcell, kcell_injective⟩
def allToks : Finset (GSem nD τ sig × ℕ × Dev nD) := Finset.univ.map ⟨tokOf, tokOf_injective⟩

/-- Device `d`'s tokens as minted. -/
def minted (d : Dev nD) : sProp 𝕄 := bigSep Finset.univ fun t : Tok => dutyTok ER (kcell (tokCell d t)) (tokRound t) d

theorem four_sep (s : Finset (Dev nD)) {A B C D : Dev nD → sProp 𝕄} :
    iprop(bigSep s A ∗ bigSep s B ∗ bigSep s C ∗ bigSep s D) ⊢ bigSep s fun p => iprop(A p ∗ B p ∗ C p ∗ D p) := by
  rw [bigSep_sep', bigSep_sep', bigSep_sep']

/-- A peers' family out of everyone's. -/
theorem peers_of_all (c : Dev nD) {Φ : Dev nD → sProp 𝕄} : bigSep Finset.univ Φ ⊢ bigSep (Finset.univ.erase c) Φ := by
  rw [bigSep_univ_at Φ c]
  iintro ⟨-, H⟩
  iexact H

theorem minted_eq (c : Dev nD) : (minted c : sProp 𝕄)
    = iprop((bigSep Finset.univ fun p : Dev nD => dutyTok ER (barC p) 0 c)
      ∗ ((bigSep Finset.univ fun p : Dev nD => dutyTok ER (xs c p) 0 c) ∗ (bigSep Finset.univ fun p : Dev nD => dutyTok ER (xr p c) 0 c)
        ∗ (bigSep Finset.univ fun p : Dev nD => dutyTok ER (ws c p) 0 c) ∗ (bigSep Finset.univ fun p : Dev nD => dutyTok ER (wr p c) 0 c))
      ∗ ((dutyTok ER (cp c 0) 0 c ∗ dutyTok ER (cp c 0) 1 c) ∗ (dutyTok ER (cp c 1) 0 c ∗ dutyTok ER (cp c 1) 1 c))) := by
  unfold minted
  rw [bigSep_univ_sum, bigSep_univ_sum, bigSep_univ_prod, bigSep_univ_prod, bigSep_four, bigSep_univ_two, bigSep_univ_two, bigSep_univ_two]
  rfl

theorem minted_pay (c : Dev nD) : minted c ⊢ (payToks (F := F) c : sProp 𝕄) := by
  rw [minted_eq]
  unfold payToks putToks sendToks
  iintro ⟨Hb, ⟨H0, H1, H2, H3⟩, ⟨Ha, Hb'⟩, Hc, Hd⟩
  isplitl [Hb]; · iapply (peers_of_all c); iexact Hb
  isplitl [H0 H1 H2 H3]
  · iapply (four_sep (Finset.univ.erase c))
    isplitl [H0]; · iapply (peers_of_all c (Φ := fun p => dutyTok ER (xs c p) 0 c)); iexact H0
    isplitl [H1]; · iapply (peers_of_all c (Φ := fun p => dutyTok ER (xr p c) 0 c)); iexact H1
    isplitl [H2]; · iapply (peers_of_all c (Φ := fun p => dutyTok ER (ws c p) 0 c)); iexact H2
    iapply (peers_of_all c (Φ := fun p => dutyTok ER (wr p c) 0 c)); iexact H3
  isplitl [Ha]; · iexact Ha
  isplitl [Hb']; · iexact Hb'
  isplitl [Hc]; · iexact Hc
  iexact Hd

/-! ## The ghost state -/

/-- What the launch deals device `c` before anything is shared. -/
def dealt (c : Dev nD) : sProp 𝕄 :=
  iprop((bigSep Finset.univ fun k : Cell => roundState ER (Rd m) (kcell (c, k)) 0)
    ∗ (atAll (F := F) c ∗ bigSep Finset.univ fun k : Cell => reached ER (kcell (c, k)) 0) ∗ minted (F := F) c)
/-- What it holds once every cell is under the schedule. -/
def ghost (c : Dev nD) : sProp 𝕄 := iprop(∃ K, records m K ∗ atAll (F := F) c ∗ payToks (F := F) c)

theorem fund_all : BI.own (ER (initOf allCells allToks)) ⊢ (|==> bigSep Finset.univ (dealt m) : sProp 𝕄) := by
  have hX (Φ : GSem nD τ sig → sProp 𝕄) : bigSep allCells Φ = bigSep Finset.univ fun c : Dev nD => bigSep Finset.univ fun k : Cell => Φ (kcell (c, k)) := by
    unfold allCells; rw [bigSep_map, bigSep_univ_prod]; rfl
  have hT : bigSep allToks (fun x => (dutyTok ER x.1 x.2.1 x.2.2 : sProp 𝕄)) = bigSep Finset.univ fun c : Dev nD => minted c := by
    unfold allToks; rw [bigSep_map, bigSep_univ_prod]; rfl
  iintro HX
  imod (Rounds.fund ER (Rd m) allCells allToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold dealt atAll
  iapply (Entails.of_eq (bigSep_sep' Finset.univ _ _).symm)
  isplitl [Hst]; · iexact Hst
  iapply (Entails.of_eq (bigSep_sep' Finset.univ _ _).symm)
  isplitl [Hat Hr]
  · iapply (Entails.of_eq (bigSep_sep' Finset.univ _ _).symm)
    isplitl [Hat]; · iexact Hat
    iexact Hr
  iexact Htok

theorem ownSemFacts : Pipeline.OwnSemFacts cfg0.spec osem := by decide

/-- The barrier's is the one semaphore that outlives the call. -/
theorem unscopedSems0_eq (c : Dev nD) : (unscopedSems0 c : sProp 𝕄) = semVal (barC c) 0 := by
  unfold unscopedSems0; rw [bigSep_eq_bigSepL_of_eq [SemLoc.reg barS] (by decide) (by decide)]; rfl

theorem zeros_eq (c : Dev nD) : (zeros c : sProp 𝕄)
    = iprop(unscopedSems0 c ∗ Pipeline.ownSems0 (Ix := Unit) (Name := ℕ) (U := UU) (Lvl := ℕ) (Val := Elt F) (τ := τ) osem c) := by
  rw [unscopedSems0_eq]; rfl

theorem zeros_cells (c : Dev nD) : zeros c ⊢ (bigSep Finset.univ fun k : Cell => semVal (kcell (c, k)) 0 : sProp 𝕄) := by
  rw [bigSep_cell]; exact Entails.of_eq rfl

/-- One device's cells put under the schedule. -/
theorem core_alloc (c : Dev nD) :
    iprop(zeros c ∗ dealt m c)
      ⊢ (|={Set.univ}=> iprop((bigSep Finset.univ fun k : Cell => iprop(∃ κ : ℕ, cellInv ER (Rd m) κ (kcell (c, k))))
          ∗ (bigSep Finset.univ fun k : Cell => reached ER (kcell (c, k)) 0) ∗ atAll (F := F) c ∗ payToks (F := F) c) : sProp 𝕄) := by
  unfold dealt
  iintro ⟨Hz, Hst, ⟨Hat, Hr⟩, Htok⟩
  ihave Hv := (zeros_cells c) $$ Hz
  ihave Htok := (minted_pay c) $$ Htok
  imod (show iprop((bigSep Finset.univ fun k : Cell => semVal (kcell (c, k)) 0) ∗ bigSep Finset.univ fun k : Cell => roundState ER (Rd m) (kcell (c, k)) 0)
      ⊢ (|={Set.univ}=> bigSep Finset.univ fun k : Cell => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv]; · iexact Hv
    iexact Hst
  imodintro
  isplitl [Hinv]; · iexact Hinv
  isplitl [Hr]; · iexact Hr
  isplitl [Hat]; · iexact Hat
  iexact Htok

/-- All the cells' invariants, shared. -/
theorem share_all :
    (bigSep Finset.univ fun c : Dev nD => iprop((bigSep Finset.univ fun k : Cell => iprop(∃ κ : ℕ, cellInv ER (Rd m) κ (kcell (c, k))))
          ∗ (bigSep Finset.univ fun k : Cell => reached ER (kcell (c, k)) 0) ∗ atAll (F := F) c ∗ payToks (F := F) c) : sProp 𝕄)
      ⊢ bigSep Finset.univ (ghost m) := by
  rw [bigSep_sep', bigSep_sep', ← bigSep_univ_prod (fun x : Dev nD × Cell => iprop(∃ κ : ℕ, cellInv ER (Rd m) κ (kcell x))),
    ← bigSep_univ_prod (fun x : Dev nD × Cell => (reached ER (kcell x) 0 : sProp 𝕄))]
  iintro ⟨HI, #HR, Hl⟩
  ihave HK := (BI.bigSep_exists_pi Finset.univ (fun (x : Dev nD × Cell) (κ : ℕ) => (cellInv ER (Rd m) κ (kcell x) : sProp 𝕄))) $$ HI
  icases HK with ⟨%K, #HI⟩
  iapply (bigSep_with_persistent (R := records m K) (Φ := fun c : Dev nD => iprop(atAll (F := F) c ∗ payToks (F := F) c)) (Ψ := ghost m)
    (S := Finset.univ) fun c _ => by
      unfold ghost
      iintro ⟨#H, Hl⟩
      iexists K
      isplitr; · iexact H
      iexact Hl)
  isplitr
  · unfold records
    isplitr; · iexact HI
    iexact HR
  iexact Hl

theorem start_zeros (c : Dev nD) :
    iprop(Pipeline.ownSems0 (Ix := Unit) (Name := ℕ) (U := UU) (Lvl := ℕ) (Val := Elt F) (τ := τ) osem c ∗ unscopedSems0 c ∗ dealt m c)
      ⊢ (iprop(zeros (F := F) c ∗ dealt m c) : sProp 𝕄) := by
  rw [zeros_eq]
  iintro ⟨Ho, Hu, Hd⟩
  isplitl [Ho Hu]
  · isplitl [Hu]; · iexact Hu
    iexact Ho
  iexact Hd

/-- Every device's semaphores at zero and what it was dealt make every device's ghost state. -/
theorem glob : (bigSep Finset.univ fun c => iprop(Pipeline.ownSems0 (Ix := Unit) (Name := ℕ) (U := UU) (Lvl := ℕ) (Val := Elt F) (τ := τ) osem c
      ∗ unscopedSems0 c ∗ dealt m c) : sProp 𝕄)
    ⊢ |={Set.univ}=> bigSep Finset.univ (ghost m) :=
  ((bigSep_mono fun c _ => (start_zeros m c).trans (core_alloc m c)).trans (bigSep_fupd _ _)).trans (BI.fupd_mono (share_all m))

end Cert.Gather
end
-- ==== Proof.Launch.lean ====
/-
  The whole run: the devices' bodies under the launch, from any memory to the result on every device.
-/
module

public import proofs.«01_k».proof.Proof.Setup
public import Idealize.ShloMosaic.Lib.Pipeline.Kit
public import Idealize.ShloMosaic.Lib.Pipeline.CollectiveSegs

@[expose] public section

noncomputable section

namespace Cert.Gather

open Cert.KernelIdeal Cert.KernelIdeal.Gen
open Idealize.ShloMosaic
open Idealize.ShloMosaic.TcCoe
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The data of the launch -/

/-- What device `c` has before its body: its ghost state, its credits, the levels, its result's buffer. -/
def start (c : Dev nD) : sProp 𝕄 :=
  iprop(ghost m c ∗ waitCreds (F := F) c ∗ levAts L lv ∗ ∃ f, outAt (F := F) c f)
def before (c : Dev nD) : sProp 𝕄 := iprop(start m c ∗ scratch (F := F) c)

def dats (_ : Fin 1) (c : Dev nD) : Dat τ (Elt F) Unit ℕ UU ℕ cfg0 c where
  A w := m ((cfg0.win w).arr.view.loc (c : Thread nD τ))
  after w _ := match w with
    | ⟨0, _⟩ => xOf m c
    | ⟨1, _⟩ => wOf m c
    | ⟨2, _⟩ => sxOf m c
    | ⟨3, _⟩ => swOf m c
  Φ t := match t with
    | ⟨0, _⟩ => before m c
    | ⟨_ + 1, _⟩ => bodyOut m c
  q _ := fullShare
  owed t := match t with
    | ⟨0, _⟩ => O₀ c
    | ⟨_ + 1, _⟩ => 0

theorem owns_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's obligation -/

abbrev held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem held_elim (c : Dev nD) (b : Ref sig .tc) (X : b.ty.Contents (Elt F)) :
    held c b X ⊢ (((c : Thread nD τ).loc b) ↦{fullShare} X : sProp 𝕄) := by
  iintro ⟨%f, %hf, H⟩
  subst hf
  iexact H
theorem held_intro (c : Dev nD) (b : Ref sig .tc) (X : b.ty.Contents (Elt F)) :
    (((c : Thread nD τ).loc b) ↦{fullShare} X : sProp 𝕄) ⊢ held c b X := by
  iintro H
  iexists X
  isplitr; · (ipureintro; rfl)
  iexact H

def obIn (c : Dev nD) : sProp 𝕄 :=
  iprop(before m c ∗ (dats m 0 c).owesAt () t0_0.castSucc
    ∗ (∃ d, held c cc0_stg0_0 ((dats m 0 c).before (0 : Fin 4) t0_0 d)) ∗ (∃ d, held c cc0_stg1_0 ((dats m 0 c).before (1 : Fin 4) t0_0 d))
    ∗ (∃ d, held c cc0_stg2_0 ((dats m 0 c).before (2 : Fin 4) t0_0 d)) ∗ (∃ d, held c cc0_stg3_0 ((dats m 0 c).before (3 : Fin 4) t0_0 d)))
def obOut (c : Dev nD) : sProp 𝕄 :=
  iprop(bodyOut m c ∗ (dats m 0 c).owesAt () t0_0.succ
    ∗ held c cc0_stg0_0 (xOf m c) ∗ held c cc0_stg1_0 (wOf m c) ∗ held c cc0_stg2_0 (sxOf m c) ∗ held c cc0_stg3_0 (swOf m c))

theorem before_x (c : Dev nD) (d) : (dats m 0 c).before (0 : Fin 4) t0_0 d = xOf m c := by
  unfold Dat.before; rw [if_pos (fetch0_0 t0_0)]; rfl
theorem before_w (c : Dev nD) (d) : (dats m 0 c).before (1 : Fin 4) t0_0 d = wOf m c := by
  unfold Dat.before; rw [if_pos (fetch0_1 t0_0)]; rfl
theorem before_sx (c : Dev nD) (d) : (dats m 0 c).before (2 : Fin 4) t0_0 d = sxOf m c := by
  unfold Dat.before; rw [if_pos (fetch0_2 t0_0)]; rfl
theorem before_sw (c : Dev nD) (d) : (dats m 0 c).before (3 : Fin 4) t0_0 d = swOf m c := by
  unfold Dat.before; rw [if_pos (fetch0_3 t0_0)]; rfl

theorem owes_in (c : Dev nD) : (dats m 0 c).owesAt () t0_0.castSucc ⊢ (owing c (O₀ c) : sProp 𝕄) := by
  unfold Dat.owesAt Pipeline.owesWithin owing
  iintro ⟨%W, -, H⟩
  iexists W; iexact H
theorem owes_out (c : Dev nD) : (owing c 0 : sProp 𝕄) ⊢ (dats m 0 c).owesAt () t0_0.succ := by
  unfold Dat.owesAt Pipeline.owesWithin owing
  iintro ⟨%W, H⟩
  iexists W
  isplitr; · (ipureintro; exact fun _ _ => Or.inl trivial)
  iexact H

theorem ob_in (c : Dev nD) : obIn m c ⊢ (iprop(∃ K, records m K ∗ levAts L lv ∗ bodyIn (F := F) c ∗ (blocks m c ∗ scales m c) ∗ owing c (O₀ c)) : sProp 𝕄) := by
  unfold obIn before start ghost
  iintro ⟨⟨⟨⟨%K, #HR, Hat, Htok⟩, Hcr, Hlev, Hout⟩, Hscr⟩, HO, ⟨%d0, H0⟩, ⟨%d1, H1⟩, ⟨%d2, H2⟩, ⟨%d3, H3⟩⟩
  ihave H0 := (held_elim c cc0_stg0_0 _) $$ H0
  ihave H1 := (held_elim c cc0_stg1_0 _) $$ H1
  ihave H2 := (held_elim c cc0_stg2_0 _) $$ H2
  ihave H3 := (held_elim c cc0_stg3_0 _) $$ H3
  ihave HO := (owes_in m c) $$ HO
  rw [before_x, before_w, before_sx, before_sw]
  iexists K
  isplitr; · iexact HR
  isplitl [Hlev]; · iexact Hlev
  isplitl [Hat Htok Hcr Hscr Hout]
  · unfold bodyIn
    isplitl [Hat]; · iexact Hat
    isplitl [Htok]; · iexact Htok
    isplitl [Hcr]; · iexact Hcr
    isplitl [Hscr]; · iexact Hscr
    iexact Hout
  isplitr [HO]
  · unfold blocks scales
    isplitl [H0 H1]
    · isplitl [H0]; · iexact H0
      iexact H1
    isplitl [H2]; · iexact H2
    iexact H3
  iexact HO

theorem ob_out (c : Dev nD) : iprop(bodyOut m c ∗ (blocks m c ∗ scales m c) ∗ owing c 0) ⊢ (obOut m c : sProp 𝕄) := by
  unfold obOut blocks scales
  iintro ⟨Hb, ⟨⟨H0, H1⟩, H2, H3⟩, HO⟩
  isplitl [Hb]; · iexact Hb
  isplitl [HO]; · iapply (owes_out m c); iexact HO
  isplitl [H0]; · iapply (held_intro c cc0_stg0_0 (xOf m c)); iexact H0
  isplitl [H1]; · iapply (held_intro c cc0_stg1_0 (wOf m c)); iexact H1
  isplitl [H2]; · iapply (held_intro c cc0_stg2_0 (sxOf m c)); iexact H2
  iapply (held_intro c cc0_stg3_0 (swOf m c)); iexact H3

theorem run_printed (c : Dev nD) : obIn m c ⊢ (run c printedBody fun _ => obOut m c : sProp 𝕄) := by
  rw [body_eq]
  unfold run
  rw [wp_deviceId]
  iintro H
  ihave H := (ob_in m c) $$ H
  icases H with ⟨%K, #HR, Hlev, Hin, Hb, HO⟩
  iapply (run_body m K c fun _ => obOut m c)
  isplitr; · iexact HR
  isplitl [Hlev]; · iexact Hlev
  isplitl [Hin]; · iexact Hin
  isplitl [Hb]; · iexact Hb
  isplitl [HO]; · iexact HO
  iintro H
  iapply (ob_out m c)
  iexact H

set_option maxRecDepth 4000 in
theorem body_obligation (c : Dev nD) : BodyObligation (dats (F := F) m 0 c) (defs₀ (F := F)) 𝒱₀ () Set.univ := fun t => by
  rw [fin_N0 t]
  rw [bigSep_W0, bigSep_W0]
  simp only [owns_eq]
  exact run_printed m c

/-! ## The launch's conditions -/

theorem share_eq (c : Dev nD) (w : Fin cfg0.W) : (dats m 0 c).share w = fullShare := by unfold Dat.share; split <;> rfl

def u₀ : UU := (initOf (Pipeline.cells cfgs cellOf_inj) (Pipeline.launchToks cfgs cellOf_inj), initOf allCells allToks)

theorem start_intro (c : Dev nD) (g : PrngReg) :
    iprop(Pipeline.unscopedRestP Pipeline.Prefetch.none cfg0.spec c (fun b => m ((c : Thread nD τ).loc b)) ∗ levAts L lv
        ∗ Pipeline.launchCred O₀ c ∗ prngReg c g ∗ ghost m c)
      ⊢ (|={Set.univ}=> iprop(start m c ∗ emp) : sProp 𝕄) := by
  rw [Pipeline.unscopedRestP_none, unscopedRest0_eq]
  iintro ⟨Hr, Hlev, Hcr, -, HG⟩
  ihave Hc := (credits (F := F) c) $$ Hcr
  imodintro
  unfold start
  isplitl
  · isplitl [HG]; · iexact HG
    isplitl [Hc]; · iexact Hc
    isplitl [Hlev]; · iexact Hlev
    iexists _; unfold outAt; iexact Hr
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold before scratch
  iintro ⟨Hs, -, Hr⟩
  isplitl [Hs]; · iexact Hs
  iexact Hr

theorem leave (c : Dev nD) :
    (dats m 0 c).Φ (Fin.last cfg0.N) ⊢ iprop((outAt c (outOf m c) ∗ unscopedSems0 c) ∗ Pipeline.ownSems0 osem c ∗ Pipeline.scopedRest cfg0.spec c) := by
  rw [show (dats m 0 c).Φ (Fin.last cfg0.N) = bodyOut m c from rfl, scopedRest0_eq]
  unfold bodyOut scratch
  rw [zeros_eq]
  iintro ⟨⟨Hu, Ho⟩, Hr, Hout⟩
  isplitl [Hu Hout]
  · isplitl [Hout]; · iexact Hout
    iexact Hu
  isplitl [Ho]; · iexact Ho
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- The result's buffer and the counter that outlives the call, as the last state holds them. -/
theorem read_end (c : Dev nD) (s' : Phys nD τ sig (Elt F)) :
    iprop((outAt c (outOf m c) ∗ unscopedSems0 c) ∗ emp ∗ SI s')
      ⊢ (|={Set.univ}=> iprop(⌜s'.mem.mem ((c : Thread nD τ).loc main_v1) = outOf m c
          ∧ ∀ sm : SemLoc sig, sm.isScoped .tc = false → s'.mem.sem ((c : Thread nD τ), sm) = 0⌝ ∗ SI s') : sProp 𝕄) := by
  unfold outAt
  iintro ⟨⟨Ho, Hu⟩, -, HSI⟩
  imod (Pipeline.unscopedSems0_read (X := unscopedSems0 c) (c := c) fupd_intro s') $$ [Hu HSI] with ⟨%hz, HSI⟩
  · isplitl [Hu]; · iexact Hu
    iexact HSI
  ihave %ho := (SI_pointsTo_agree (st := s') (ℓ := (c : Thread nD τ).loc main_v1) (I := Finset.univ) (q := fullShare) (f := outOf m c)) $$ [Ho HSI]
  · isplitl [HSI]; · iexact HSI
    iexact Ho
  imodintro
  isplitr
  · ipureintro; exact ⟨funext fun i => ho i (Finset.mem_univ i), hz⟩
  iexact HSI

/-! ## The run -/

/-- What a final state satisfies: every device's result is its `outOf`, its arguments are as they were. -/
def Done (r : PUnit × MemSt nD τ sig (Elt F)) : Prop :=
  ∀ c : Dev nD, r.2.mem ((c : Thread nD τ).loc main_v1) = outOf m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)

set_option maxRecDepth 8000 in
/-- On the eight devices, for any float values and from any memory with zero counters, every execution ends, with
    each device's result computed from all devices' blocks, the arguments unchanged and every counter at zero. -/
theorem run_main (ρ : Dev nD → PrngReg) :
    θ_run defs (onTc (τ := τ) (main (F := F))) ⟨m, fun _ => 0, ρ⟩ (fun r => Done m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := dealt m) (G' := ghost m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => iprop(outAt c (outOf m c) ∗ unscopedSems0 c)) (Z := fun _ => iprop(emp))
    (hX := fun c => start_intro m c (ρ c)) (hin := enter m) (hout := leave m)
    (QY := fun c s => s.mem ((c : Thread nD τ).loc main_v1) = outOf m c
      ∧ ∀ sm : SemLoc sig, sm.isScoped .tc = false → s.sem ((c.tc : Thread nD τ), sm) = 0)
    (hY := read_end m)
    (hQ := fun _ h hs => ⟨fun c => ⟨(h c).2.2.1,
        ((h c).1 (0 : Fin 4)).trans ((dats (F := F) m 0 c).arrAt_in (0 : Fin 4) rfl _),
        ((h c).1 (1 : Fin 4)).trans ((dats (F := F) m 0 c).arrAt_in (1 : Fin 4) rfl _),
        ((h c).1 (2 : Fin 4)).trans ((dats (F := F) m 0 c).arrAt_in (2 : Fin 4) rfl _),
        ((h c).1 (3 : Fin 4)).trans ((dats (F := F) m 0 c).arrAt_in (3 : Fin 4) rfl _)⟩,
      sem_eq_zero hs fun c => (h c).2.2.2⟩)

end Cert.Gather
end
-- ==== Proof.RefValue.lean ====
/-
  What the reference computes: its one program loads both operands and both scales whole, so its result is one
  function of its argument arrays, `product` below.
-/
module

public import proofs.«01_k».proof.Proof.Gen.ReferenceIdeal.Value

@[expose] public section

noncomputable section

namespace Cert.Whole

open Cert.ReferenceIdeal Cert.ReferenceIdeal.Gen Cert.ReferenceIdeal.Value
open Idealize.ShloMosaic Idealize.ShloMosaic.TcCoe Idealize.SL.Sem
open Idealize.ShloMosaic.Pipeline (Dat)

variable {F : FTy → Type} [FloatOps F]

/-- The one index of a scale. -/
abbrev only : S1.Idx := Shape.Idx.first (numel1_S1.symm ▸ Nat.one_pos)

theorem only_one (i j : S1.Idx) : i = j := funext fun a => Fin.ext (by
  have h : ∀ a : Fin 1, S1.size a = 1 := by decide
  have h1 := (i a).isLt; have h2 := (j a).isLt; have := h a; omega)

/-- The product of the two operands, times the product of the two scales. -/
def product (x : Vec F S4096x4096 .fp8e4m3) (w : Vec F S4096x2048 .fp8e5m2) (sx sw : Vec F S1 .f32) : Vec F S4096x2048 .f32 :=
  k0_pay1 x w (sx only) (sw only)

theorem two_zeros : (![0, 0] : Fin 2 → Nat) = fun _ => 0 := funext fun a => by fin_cases a <;> rfl

/-- The body stores `product` of what its four buffers hold. -/
theorem stored (c : Dev nD) (arg0 : Memref sig .tc .vmem S4096x4096 .fp8e4m3) (h0 : arg0.IsWhole)
    (arg1 : Memref sig .tc .vmem S4096x2048 .fp8e5m2) (h1 : arg1.IsWhole) (arg2 : Memref sig .tc .smem S1 .f32) (h2 : arg2.IsWhole)
    (arg3 : Memref sig .tc .smem S1 .f32) (h3 : arg3.IsWhole) (arg4 : Memref sig .tc .vmem S4096x2048 .f32) (h4 : arg4.IsWhole)
    (x : Vec F S4096x4096 .fp8e4m3) (w : Vec F S4096x2048 .fp8e5m2) (sx sw : Vec F S1 .f32) :
    out0_A_4 c arg0 h0 arg1 h1 arg2 h2 arg3 h3 arg4 h4 x w sx sw = product x w sx sw := by
  unfold out0_A_4
  rw [View.read_writes_junk_eq_canon]
  show View.canon ([⟨Rect.unit (s := S4096x2048) ![0, 0] S4096x2048.size inb_S4096x2048_S4096x2048_0_0,
      k0_pay1
        (View.readAt (Elt F) arg0.view (Rect.unit (s := S4096x4096) ![0, 0] S4096x4096.size inb_S4096x4096_S4096x4096_0_0).toLoadRect (h0.unread x))
        (View.readAt (Elt F) arg1.view (Rect.unit (s := S4096x2048) ![0, 0] S4096x2048.size inb_S4096x2048_S4096x2048_0_0).toLoadRect (h1.unread w))
        (View.readAt (Elt F) arg2.view (Rect.unit (s := S1) ![0] S1.size inb_S1_S1_0).toLoadRect (h2.unread sx) _)
        (View.readAt (Elt F) arg3.view (Rect.unit (s := S1) ![0] S1.size inb_S1_S1_0).toLoadRect (h3.unread sw) _)⟩] :
      List (View.Piece (Elt F) S4096x2048 .f32)) = _
  rw [View.canon_unit_zero two_zeros, View.readAt_eq_ld, View.readAt_eq_ld, View.readAt_eq_ld, View.readAt_eq_ld, h0.read_unread,
    h1.read_unread, h2.read_unread, h3.read_unread, View.ld_unit_zero two_zeros, View.ld_unit_zero two_zeros]
  exact congrArg₂ (k0_pay1 x w) (congrArg sx (only_one _ _)) (congrArg sw (only_one _ _))

variable (m : (ℓ : Loc nD τ sig) → Buf (Elt F) ℓ) (ρ : Dev nD → PrngReg)

/-! Each window is its whole array: its block's indices are the array's. -/

theorem at0 (t : Fin cfg0.N) (j : S4096x4096.Idx) : ((cfg0.win 0).blk t).view.emb j = j := by
  funext a; apply Fin.ext
  show 0 * S4096x4096.size a + 1 * (j a).val = (j a).val
  rw [Nat.zero_mul, Nat.zero_add, Nat.one_mul]
theorem at1 (t : Fin cfg0.N) (j : S4096x2048.Idx) : ((cfg0.win 1).blk t).view.emb j = j := by
  funext a; apply Fin.ext
  show 0 * S4096x2048.size a + 1 * (j a).val = (j a).val
  rw [Nat.zero_mul, Nat.zero_add, Nat.one_mul]
theorem at4 (t : Fin cfg0.N) (j : S4096x2048.Idx) : ((cfg0.win 4).blk t).view.emb j = j := by
  funext a; apply Fin.ext
  show 0 * S4096x2048.size a + 1 * (j a).val = (j a).val
  rw [Nat.zero_mul, Nat.zero_add, Nat.one_mul]

/-- What the one step leaves in the result's buffer: `product` of the argument arrays. -/
theorem left (c : Dev nD) (t : Fin cfg0.N) : outsAt0 m c t
    = product (m ((c : Thread nD τ).loc main_arg0)) (m ((c : Thread nD τ).loc main_arg1)) (m ((c : Thread nD τ).loc main_arg2)) (m ((c : Thread nD τ).loc main_arg3)) := by
  unfold outsAt0
  rw [stored]
  unfold product
  rw [show iblk m c 0 t = m ((c : Thread nD τ).loc main_arg0) from funext fun j => congrArg (m ((c : Thread nD τ).loc main_arg0)) (at0 t j),
    show iblk m c 1 t = m ((c : Thread nD τ).loc main_arg1) from funext fun j => congrArg (m ((c : Thread nD τ).loc main_arg1)) (at1 t j),
    show iblk m c 2 t only = m ((c : Thread nD τ).loc main_arg2) only from congrArg (m ((c : Thread nD τ).loc main_arg2)) (only_one _ _),
    show iblk m c 3 t only = m ((c : Thread nD τ).loc main_arg3) only from congrArg (m ((c : Thread nD τ).loc main_arg3)) (only_one _ _)]

/-- The result array after the run is `product` of the argument arrays. -/
theorem result (c : Dev nD) : (dats m 0 c).arrAt 4 cfg0.N
    = product (m ((c : Thread nD τ).loc main_arg0)) (m ((c : Thread nD τ).loc main_arg1)) (m ((c : Thread nD τ).loc main_arg2)) (m ((c : Thread nD τ).loc main_arg3)) := by
  funext j
  have t : Fin cfg0.N := ⟨0, by decide⟩
  have h := congrFun ((blocks4 m c t (Gen.flush0_4 t)).trans (flushed4 m c t)) j
  rw [left] at h
  have h' : (dats m 0 c).arrAt 4 cfg0.N (((cfg0.win 4).blk t).view.emb j) = _ := h
  rw [at4] at h'
  exact h'

/-- The reference's run: its result is `product` of its arguments, which end as they were. -/
theorem run : θ_run defs (onTc (τ := τ) (main (F := F))) ⟨m, fun _ => 0, ρ⟩ fun r => ∀ c : Dev nD,
      r.2.mem ((c : Thread nD τ).loc main_v0)
        = product (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (result m c), (h c).2⟩) (run_blocks m ρ)

end Cert.Whole
end
-- ==== Proof.Equation.lean ====
/-
  The gathered operands are the whole arrays the devices hold the blocks of, and over the extended reals every device's result
  is the reference's function of them: chunk `i` of the result is the product of rows `1024 i` to `1024 (i + 1)` of
  the first operand with the second, and each element of a product reads one row.
-/
module

public import proofs.«01_k».proof.Proof.Contents
public import proofs.«01_k».proof.Proof.RefValue
public import Idealize.ShloMosaic.Lib.Layout
public import Idealize.ShloMosaic.Lib.MatmulPlain

@[expose] public section

noncomputable section

namespace Cert.Gather

open Cert.KernelIdeal Cert.KernelIdeal.Gen
open Idealize.ShloMosaic
open Idealize.ShloMosaic.TcCoe
open Idealize.ShloMosaic.ValueIdx

section Gathered

variable {F : FTy → Type} [FloatOps F]
variable (m : (ℓ : Loc nD τ sig) → Buf (Elt F) ℓ)

/-- An index under a family of rectangles that covers the shape is in one of them. -/
theorem in_some {s : Shape} {n : Nat} (r : Fin n → Rect s) (h : (Finset.univ : Finset (Fin n)).biUnion (fun t => (r t).set) = Finset.univ)
    (i : s.Idx) : ∃ t y, (r t).emb y = i := by
  have hi := Finset.mem_univ i
  rw [← h] at hi
  obtain ⟨t, -, ht⟩ := Finset.mem_biUnion.mp hi
  rw [← Rect.map_emb_univ, Finset.mem_map] at ht
  obtain ⟨y, -, hy⟩ := ht
  exact ⟨t, y, hy⟩

/-! Each argument's window is its whole array. -/

theorem xOf_whole (c : Dev nD) : xOf m c = m ((c : Thread nD τ).loc main_arg0) :=
  funext fun j => congrArg (m ((c : Thread nD τ).loc main_arg0)) (by
    funext a; apply Fin.ext
    show 0 * S4096x512.size a + 1 * (j a).val = (j a).val
    rw [Nat.zero_mul, Nat.zero_add, Nat.one_mul])
theorem wOf_whole (c : Dev nD) : wOf m c = m ((c : Thread nD τ).loc main_arg1) :=
  funext fun j => congrArg (m ((c : Thread nD τ).loc main_arg1)) (by
    funext a; apply Fin.ext
    show 0 * S512x2048.size a + 1 * (j a).val = (j a).val
    rw [Nat.zero_mul, Nat.zero_add, Nat.one_mul])
theorem sxOf_one (c : Dev nD) : sxOf m c one = m ((c : Thread nD τ).loc main_arg2) one :=
  congrArg (m ((c : Thread nD τ).loc main_arg2)) (one_only _)
theorem swOf_one (c : Dev nD) : swOf m c one = m ((c : Thread nD τ).loc main_arg3) one :=
  congrArg (m ((c : Thread nD τ).loc main_arg3)) (one_only _)

/-- Where every device holds its column block of `X`, what is gathered is `X`. -/
theorem gathered_x (X : S4096x4096.Idx → Elt F .fp8e4m3)
    (h : ∀ c : Dev nD, m ((c : Thread nD τ).loc main_arg0) = Layout.block ⟨2, ![4096, 512]⟩ ⟨2, ![4096, 4096]⟩ 1 8 c X) : XG m = X := by
  funext i
  obtain ⟨j, y, rfl⟩ := in_some xR xR_cover i
  refine (Rect.glue_emb xR xR_cover xR_disjoint (fun j => xOf m j) j y).trans ?_
  rw [xOf_whole, h j]
  refine congrArg X (funext fun a => Fin.ext ?_)
  match a with
  | ⟨0, _⟩ => show (y 0).val = 0 + 1 * (y 0).val; omega
  | ⟨1, _⟩ => show j.val * 512 + (y 1).val = 512 * j.val + 1 * (y 1).val; omega

/-- Where every device holds its row block of `W`, what is gathered is `W`. -/
theorem gathered_w (W : S4096x2048.Idx → Elt F .fp8e5m2)
    (h : ∀ c : Dev nD, m ((c : Thread nD τ).loc main_arg1) = Layout.block ⟨2, ![512, 2048]⟩ ⟨2, ![4096, 2048]⟩ 0 8 c W) : WG m = W := by
  funext i
  obtain ⟨j, y, rfl⟩ := in_some wR wR_cover i
  refine (Rect.glue_emb wR wR_cover wR_disjoint (fun j => wOf m j) j y).trans ?_
  rw [wOf_whole, h j]
  refine congrArg W (funext fun a => Fin.ext ?_)
  match a with
  | ⟨0, _⟩ => show j.val * 512 + (y 0).val = 512 * j.val + 1 * (y 0).val; omega
  | ⟨1, _⟩ => show (y 1).val = 0 + 1 * (y 1).val; omega

end Gathered

/-! ## Over the extended reals -/

/-- An element of what is put in a place: a row of the chunk's operand by a column of the second, times the scale. -/
theorem place_entry (s : Ideal .f32) (x : Vec Ideal S1024x4096 .fp8e4m3) (w : Vec Ideal S4096x2048 .fp8e5m2) (r : Fin 1024) (l : Fin 2048) :
    k0_pay19 s x w (Shape.reshapeEquiv squeezes_S1x1024x2048_S1024x2048.numel_eq (ix2 r l)) =
      (Ideal.ofBits .f32 0x00000000#32 + ∑ k : Fin 4096, x (ix2 r k) * w (ix2 k l)) * s := by
  unfold k0_pay19
  rw [show ∀ f : S1024x2048.Idx → EReal, shapeCast S1x1024x2048 f shapeCasts_S1024x2048_S1x1024x2048
      (Shape.reshapeEquiv squeezes_S1x1024x2048_S1024x2048.numel_eq (ix2 r l)) = f (ix2 r l) from fun f =>
    congrArg f ((Shape.reshapeEquiv_reshapeEquiv _ _ _).trans (Shape.reshapeEquiv_self _ _))]
  refine congrArg (· * s) ?_
  exact Ideal.matmul_plain_apply none x w (constant S1024x2048 .f32 0x00000000#32) r l

/-- An element of the reference's result likewise. -/
theorem product_entry (x : S4096x4096.Idx → EReal) (w : S4096x2048.Idx → EReal) (sx sw : S1.Idx → EReal) (r : Fin 4096) (l : Fin 2048) :
    Cert.Whole.product (F := Ideal) x w sx sw (ix2 r l) =
      (Ideal.ofBits .f32 0x00000000#32 + ∑ k : Fin 4096, x (ix2 r k) * w (ix2 k l)) * (sx Cert.Whole.only * sw Cert.Whole.only) := by
  unfold Cert.Whole.product Cert.ReferenceIdeal.Gen.k0_pay1
  refine congrArg (· * (sx Cert.Whole.only * sw Cert.Whole.only)) ?_
  exact Ideal.matmul_plain_apply none (φ₁ := .f32) (φ₂ := .f32) x w (constant S4096x2048 .f32 0x00000000#32) r l

variable (m : (ℓ : Loc nD τ sig) → Buf (Elt Ideal) ℓ)

/-- Device `c`'s result is the reference's function of the gathered operands and its own scales. -/
theorem outOf_eq (c : Dev nD) :
    outOf m c = Cert.Whole.product (F := Ideal) (XG m) (WG m) (m ((c : Thread nD τ).loc main_arg2)) (m ((c : Thread nD τ).loc main_arg3)) := by
  funext i
  obtain ⟨j, y, rfl⟩ := in_some outR outR_cover i
  refine (Rect.glue_emb outR outR_cover outR_disjoint (fun i => chunkOf m c i) j y).trans ?_
  obtain ⟨r, l, rfl⟩ : ∃ (r : Fin 1024) (l : Fin 2048), y = ix2 r l := ⟨y 0, y 1, eq_ix2 y⟩
  have hj := j.isLt; have hr := r.isLt
  have e : (outR j).emb (ix2 r l) = ix2 (⟨1024 * j.val + r.val, by omega⟩ : Fin 4096) l := funext fun a => Fin.ext (by
    match a with
    | ⟨0, _⟩ => show 1024 * j.val + 1 * r.val = 1024 * j.val + r.val; omega
    | ⟨1, _⟩ => show 0 + 1 * l.val = l.val; omega)
  rw [e, product_entry]
  refine (place_entry _ _ _ r l).trans ?_
  refine congrArg₂ (fun a b : EReal => (Ideal.ofBits .f32 0x00000000#32 + a) * b) (Finset.sum_congr rfl fun k _ => ?_) ?_
  · refine congrArg (fun v : EReal => v * WG m (ix2 k l)) (congrArg (XG m) (funext fun a => Fin.ext ?_))
    match a with
    | ⟨0, _⟩ => show 1024 * j.val + 1 * r.val = 1024 * j.val + r.val; omega
    | ⟨1, _⟩ => show 0 + 1 * k.val = k.val; omega
  · exact congrArg₂ (fun a b : EReal => a * b) (sxOf_one m c) (swOf_one m c)

end Cert.Gather
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Launch
public import proofs.«01_k».proof.Proof.Equation
public import Idealize.ShloMosaic.Adequacy
public import Idealize.ShloMosaic.Init

@[expose] public section

noncomputable section

namespace Cert.Proof

open Idealize.ShloMosaic Idealize.SL.Sem Cert.Kernel

/-- What `quiescent_Kernel` says, of `KernelIdeal`'s text at the machine's bit patterns. -/
def QuietAtBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

/-- The kernel is printed twice, as itself and as its idealization, word for word the same: no operation was
    rewritten. So what is proved of the one text, at any values, is proved of the other. -/
theorem same_text : Cert.quiescent_Kernel = QuietAtBits := by sl_kernel_rfl

theorem quiet_bits : QuietAtBits := fun m g _ =>
  (θ_run _ _ _).mono (fun _ h => ⟨fun c => (h.1 c).2, h.2⟩) (Cert.Gather.run_main (F := Bits) m g)

/-- The kernel terminates without a fault, leaves its arguments as they were and every semaphore counter at zero. -/
theorem frame_kernel : Cert.quiescent_Kernel := same_text.mpr quiet_bits

/-- The same of its idealization. -/
theorem frame_ideal : Cert.quiescent_KernelIdeal := fun m g _ =>
  (θ_run _ _ _).mono (fun _ h => ⟨fun c => (h.1 c).2, h.2⟩) (Cert.Gather.run_main (F := Ideal) m g)

/-- The same of the reference. -/
theorem frame_reference : Cert.quiescent_ReferenceIdeal := fun m g _ => Cert.ReferenceIdeal.Gen.frame m g

/-- At the ideal values, from devices holding their blocks of the reference's operands and its scales, every device's
    result is the reference's. -/
theorem equal : Cert.algebraic_KernelIdeal_ReferenceIdeal := fun m g m' g' _ hm =>
  ⟨_, (θ_run _ _ _).mono (fun _ h c => ⟨(h.1 c).1.trans ((Cert.Gather.outOf_eq m c).trans (by
        rw [Cert.Gather.gathered_x m _ fun c => (hm c).1, Cert.Gather.gathered_w m _ fun c => (hm c).2.1, (hm c).2.2.1, (hm c).2.2.2])), (h.1 c).2⟩)
      (Cert.Gather.run_main (F := Ideal) m g),
    (θ_run _ _ _).mono (fun _ h => h 0) (Cert.Whole.run (F := Ideal) m' g')⟩

theorem claim : Cert.Claim := ⟨Cert.Kernel.Gen.facts, Cert.KernelIdeal.Gen.facts, Cert.ReferenceIdeal.Gen.facts,
  frame_kernel, frame_ideal, frame_reference, trivial, equal⟩

end Cert.Proof

end
